-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ssd_inputs [hPre_ssd_inputs : Cert.Pre_ssd_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_ssd_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ssd_inputs [hPre_ssd_inputs : Cert.Pre_ssd_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ssd_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_ssd_inputs [hKernelIdeal : Cert.KernelIdeal.Facts] [hPre_ssd_inputs : Cert.Pre_ssd_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ssd_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ssd_inputs [hReferenceIdeal : Cert.ReferenceIdeal.Facts] [hPre_ssd_inputs : Cert.Pre_ssd_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ssd_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_ssd_inputs [hKernelIdeal : Cert.KernelIdeal.Facts] [hReferenceIdeal : Cert.ReferenceIdeal.Facts] [hPre_ssd_inputs : Cert.Pre_ssd_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ssd_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ssd_inputs : Cert.Pre_ssd_inputs.Facts),
    quiescent_Kernel (hKernel := hKernel)
    ∧ quiescent_KernelIdeal (hKernelIdeal := hKernelIdeal)
    ∧ quiescent_KernelIdeal_pre_ssd_inputs (hKernelIdeal := hKernelIdeal) (hPre_ssd_inputs := hPre_ssd_inputs)
    ∧ quiescent_ReferenceIdeal (hReferenceIdeal := hReferenceIdeal)
    ∧ quiescent_ReferenceIdeal_pre_ssd_inputs (hReferenceIdeal := hReferenceIdeal) (hPre_ssd_inputs := hPre_ssd_inputs)
    ∧ preserves_Kernel_KernelIdeal
    ∧ algebraic_KernelIdeal_ReferenceIdeal_pre_ssd_inputs (hKernelIdeal := hKernelIdeal) (hReferenceIdeal := hReferenceIdeal) (hPre_ssd_inputs := hPre_ssd_inputs)
-- ==== Pre_ssd_inputs.lean ====
abbrev S16x100x4 : Shape := ⟨3, ![16, 100, 4]⟩
abbrev S16x100 : Shape := ⟨2, ![16, 100]⟩
abbrev S16x20000x4 : Shape := ⟨3, ![16, 20000, 4]⟩
abbrev S16x20000x81 : Shape := ⟨3, ![16, 20000, 81]⟩
abbrev S16x20000 : Shape := ⟨2, ![16, 20000]⟩
abbrev S_ : Shape := ⟨0, ![]⟩
abbrev S16 : Shape := ⟨1, ![16]⟩

class Facts : Prop where
  bcast_S_S16x20000 : S_.BroadcastsInDim S16x20000 (![] : Fin 0 → Fin S16x20000.rank)
  natLt_1_32 : 1 < 32
  reducesTo_S16x20000_S16_d1 : S16x20000.ReducesTo [1] S16
  h_S_ : 0 < S_.numel
  reducesTo_S16x20000_S_d0_1 : S16x20000.ReducesTo [0, 1] S_
  bcast_S_S16x100 : S_.BroadcastsInDim S16x100 (![] : Fin 0 → Fin S16x100.rank)
  reducesTo_S16x100_S_d0_1 : S16x100.ReducesTo [0, 1] S_
  bcast_S_S16x20000x81 : S_.BroadcastsInDim S16x20000x81 (![] : Fin 0 → Fin S16x20000x81.rank)
  reducesTo_S16x20000x81_S_d0_1_2 : S16x20000x81.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_v3 : IVec S16 32) (main_v13 : IVec S_ 1) (main_v14 : FVec F S16x20000x81 .f32) (main_v15 : FVec F S16x20000x81 .f32) : IVec S_ 1 :=
  let main_v16 : IVec S16x20000x81 1 := cmpf .olt main_v14 main_v15
  let main_c_6 : IVec S_ 1 := constantI S_ 1 1#1
  let main_v17 : IVec S_ 1 := (fun x v => Host.reduce IntOp.andi x v reducesTo_S16x20000x81_S_d0_1_2 h_S_) main_v16 main_c_6
  let main_v18 : IVec S_ 1 := andi main_v13 main_v17
  let main_c_7 : IVec S_ 32 := constantI S_ 32 4#32
  let main_v19 : IVec S16 32 := broadcastInDim S16 ![] bcast_S_S16 main_c_7
  let main_v20 : IVec S16 32 := muli main_v19 main_v3
  let main_c_8 : IVec S_ 32 := constantI S_ 32 20000#32
  let main_v21 : IVec S16 32 := broadcastInDim S16 ![] bcast_S_S16 main_c_8
  let main_v22 : IVec S16 1 := cmpi .sle main_v20 main_v21
  let main_c_9 : IVec S_ 1 := constantI S_ 1 1#1
  let main_v23 : IVec S_ 1 := (fun x v => Host.reduce IntOp.andi x v reducesTo_S16_S_d0 h_S_) main_v22 main_c_9
  let main_v24 : IVec S_ 1 := andi main_v18 main_v23
  main_v24

def fn {F : FTy → Type} [FloatOps F] (main_arg0 : FVec F S16x100x4 .f32) (main_arg1 : IVec S16x100 32) (main_arg2 : FVec F S16x20000x4 .f32) (main_arg3 : FVec F S16x20000x81 .f32) (main_arg4 : FVec F S16x20000x4 .f32) (main_arg5 : IVec S16x20000 32) : IVec S_ 1 :=
  let main_c : IVec S_ 32 := constantI S_ 32 0#32
  let main_v0 : IVec S16x20000 32 := broadcastInDim S16x20000 ![] bcast_S_S16x20000 main_c
  let main_v1 : IVec S16x20000 1 := cmpi .sge main_arg5 main_v0
  let main_v2 : IVec S16x20000 32 := (extui 32 · natLt_1_32) main_v1
  let main_c_0 : IVec S_ 32 := constantI S_ 32 0#32
  let main_v3 : IVec S16 32 := (fun x v => Host.reduce IntOp.addi x v reducesTo_S16x20000_S16_d1 h_S_) main_v2 main_c_0
  let main_c_1 : IVec S_ 32 := constantI S_ 32 100#32
  let main_v4 : IVec S16x20000 32 := broadcastInDim S16x20000 ![] bcast_S_S16x20000 main_c_1
  let main_v5 : IVec S16x20000 1 := cmpi .slt main_arg5 main_v4
  let main_c_2 : IVec S_ 1 := constantI S_ 1 1#1
  let main_v6 : IVec S_ 1 := (fun x v => Host.reduce IntOp.andi x v reducesTo_S16x20000_S_d0_1 h_S_) main_v5 main_c_2
  let main_c_3 : IVec S_ 32 := constantI S_ 32 1#32
  let main_v7 : IVec S16x100 32 := broadcastInDim S16x100 ![] bcast_S_S16x100 main_c_3
  let main_v8 : IVec S16x100 1 := cmpi .sge main_arg1 main_v7
  let main_c_4 : IVec S_ 32 := constantI S_ 32 81#32
  let main_v9 : IVec S16x100 32 := broadcastInDim S16x100 ![] bcast_S_S16x100 main_c_4
  let main_v10 : IVec S16x100 1 := cmpi .slt main_arg1 main_v9
  let main_v11 : IVec S16x100 1 := andi main_v8 main_v10
  let main_c_5 : IVec S_ 1 := constantI S_ 1 1#1
  let main_v12 : IVec S_ 1 := (fun x v => Host.reduce IntOp.andi x v reducesTo_S16x100_S_d0_1 h_S_) main_v11 main_c_5
  let main_v13 : IVec S_ 1 := andi main_v6 main_v12
  let main_v14 : FVec F S16x20000x81 .f32 := Host.absf main_arg3
  let main_cst : FVec F S_ .f32 := constant S_ .f32 0x7F800000#32
  let main_v15 : FVec F S16x20000x81 .f32 := broadcastInDim S16x20000x81 ![] bcast_S_S16x20000x81 main_cst
  fn_part1 (F := F) main_v3 main_v13 main_v14 main_v15
-- ==== Kernel.lean ====
abbrev S16x100x4 : Shape := ⟨3, ![16, 100, 4]⟩
abbrev S16x100 : Shape := ⟨2, ![16, 100]⟩
abbrev S16x20000x4 : Shape := ⟨3, ![16, 20000, 4]⟩
abbrev S16x20000x81 : Shape := ⟨3, ![16, 20000, 81]⟩
abbrev S16x20000 : Shape := ⟨2, ![16, 20000]⟩
abbrev S16x4x20000 : Shape := ⟨3, ![16, 4, 20000]⟩
abbrev S16x1x20000 : Shape := ⟨3, ![16, 1, 20000]⟩
abbrev S16x4x100 : Shape := ⟨3, ![16, 4, 100]⟩
abbrev S16x1x100 : Shape := ⟨3, ![16, 1, 100]⟩
abbrev S16x5x100 : Shape := ⟨3, ![16, 5, 100]⟩
abbrev S1x1 : Shape := ⟨2, ![1, 1]⟩
abbrev S1x4x20000 : Shape := ⟨3, ![1, 4, 20000]⟩
abbrev S1x1x20000 : Shape := ⟨3, ![1, 1, 20000]⟩
abbrev S1x5x100 : Shape := ⟨3, ![1, 5, 100]⟩
abbrev S4x20000 : Shape := ⟨2, ![4, 20000]⟩
abbrev S1x20000 : Shape := ⟨2, ![1, 20000]⟩
abbrev S5x100 : Shape := ⟨2, ![5, 100]⟩
abbrev S100x1 : Shape := ⟨2, ![100, 1]⟩
abbrev S100x20000 : Shape := ⟨2, ![100, 20000]⟩
abbrev S5x20000 : Shape := ⟨2, ![5, 20000]⟩
abbrev S1 : Shape := ⟨1, ![1]⟩
abbrev S1x1x1 : Shape := ⟨3, ![1, 1, 1]⟩
abbrev S25x100x10368 : Shape := ⟨3, ![25, 100, 10368]⟩
abbrev S25x100x128 : Shape := ⟨3, ![25, 100, 128]⟩
abbrev S1x100x10368 : Shape := ⟨3, ![1, 100, 10368]⟩
abbrev S1x100x128 : Shape := ⟨3, ![1, 100, 128]⟩
abbrev S10368x128 : Shape := ⟨2, ![10368, 128]⟩
abbrev S10368x1 : Shape := ⟨2, ![10368, 1]⟩
abbrev S1x128 : Shape := ⟨2, ![1, 128]⟩
abbrev S100x10368 : Shape := ⟨2, ![100, 10368]⟩
abbrev S100x128 : Shape := ⟨2, ![100, 128]⟩
abbrev S1x10368 : Shape := ⟨2, ![1, 10368]⟩
abbrev S16 : Shape := ⟨1, ![16]⟩
abbrev S16x1 : Shape := ⟨2, ![16, 1]⟩
abbrev S16x20000x1 : Shape := ⟨3, ![16, 20000, 1]⟩
abbrev S16x20000x20000 : Shape := ⟨3, ![16, 20000, 20000]⟩
abbrev S1x16x1 : Shape := ⟨3, ![1, 16, 1]⟩
abbrev S_ : Shape := ⟨0, ![]⟩

abbrev nBuf : Space → Nat
  | .hbm => 32
  | .vmem => 22
  | .smem => 0
  | _ => 0

abbrev bufTy : (tb : Table) → Fin (tcTables nBuf tb) → BufTy
  | .hbm, ⟨0, _⟩ => ⟨S16x100x4, .f32⟩
  | .hbm, ⟨1, _⟩ => ⟨S16x100, .i32⟩
  | .hbm, ⟨2, _⟩ => ⟨S16x20000x4, .f32⟩
  | .hbm, ⟨3, _⟩ => ⟨S16x20000x81, .f32⟩
  | .hbm, ⟨4, _⟩ => ⟨S16x20000x4, .f32⟩
  | .hbm, ⟨5, _⟩ => ⟨S16x20000, .i32⟩
  | .hbm, ⟨6, _⟩ => ⟨S16x4x20000, .f32⟩
  | .hbm, ⟨7, _⟩ => ⟨S16x4x20000, .f32⟩
  | .hbm, ⟨8, _⟩ => ⟨S16x1x20000, .i32⟩
  | .hbm, ⟨9, _⟩ => ⟨S16x4x100, .f32⟩
  | .hbm, ⟨10, _⟩ => ⟨S16x100, .f32⟩
  | .hbm, ⟨11, _⟩ => ⟨S16x1x100, .f32⟩
  | .hbm, ⟨12, _⟩ => ⟨S16x5x100, .f32⟩
  | .hbm, ⟨13, _⟩ => ⟨S16x1x20000, .f32⟩
  | .hbm, ⟨14, _⟩ => ⟨S1x1, .f32⟩
  | .hbm, ⟨15, _⟩ => ⟨S25x100x10368, .f32⟩
  | .hbm, ⟨16, _⟩ => ⟨S25x100x128, .f32⟩
  | .hbm, ⟨17, _⟩ => ⟨S25x100x128, .f32⟩
  | .hbm, ⟨18, _⟩ => ⟨S1x1, .f32⟩
  | .hbm, ⟨19, _⟩ => ⟨S16x20000, .f32⟩
  | .hbm, ⟨20, _⟩ => ⟨S1x1, .f32⟩
  | .hbm, ⟨21, _⟩ => ⟨S1x1, .i32⟩
  | .hbm, ⟨22, _⟩ => ⟨S_, .i32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1x4x20000, .f32⟩
  | .local _ .vmem, ⟨1, _⟩ => ⟨S1x4x20000, .f32⟩
  | .local _ .vmem, ⟨2, _⟩ => ⟨S1x4x20000, .f32⟩
  | .local _ .vmem, ⟨3, _⟩ => ⟨S1x4x20000, .f32⟩
  | .local _ .vmem, ⟨4, _⟩ => ⟨S1x1x20000, .i32⟩
  | .local _ .vmem, ⟨5, _⟩ => ⟨S1x1x20000, .i32⟩
  | .local _ .vmem, ⟨6, _⟩ => ⟨S1x5x100, .f32⟩
  | .local _ .vmem, ⟨7, _⟩ => ⟨S1x5x100, .f32⟩
  | .local _ .vmem, ⟨8, _⟩ => ⟨S1x1x20000, .f32⟩
  | .local _ .vmem, ⟨9, _⟩ => ⟨S1x1x20000, .f32⟩
  | .local _ .vmem, ⟨10, _⟩ => ⟨S1x1, .f32⟩
  | .local _ .vmem, ⟨11, _⟩ => ⟨S1x100x10368, .f32⟩
  | .local _ .vmem, ⟨12, _⟩ => ⟨S1x100x10368, .f32⟩
  | .local _ .vmem, ⟨13, _⟩ => ⟨S1x100x128, .f32⟩
  | .local _ .vmem, ⟨14, _⟩ => ⟨S1x100x128, .f32⟩
  | .local _ .vmem, ⟨15, _⟩ => ⟨S1x100x128, .f32⟩
  | .local _ .vmem, ⟨16, _⟩ => ⟨S1x100x128, .f32⟩
  | .local _ .vmem, ⟨17, _⟩ => ⟨S1x1, .f32⟩
  | .local _ .vmem, ⟨18, _⟩ => ⟨S10368x128, .f32⟩
  | .local _ .vmem, ⟨19, _⟩ => ⟨S16x20000, .f32⟩
  | .local _ .vmem, ⟨20, _⟩ => ⟨S1x1, .f32⟩
  | .local _ .vmem, ⟨21, _⟩ => ⟨S1x1, .i32⟩
  | _, _ => ⟨S16x100x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg2_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc2_sem0_0 : DmaSem sig := 18
abbrev cc2_sem1_0 : DmaSem sig := 19
abbrev cc2_sem2_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x20000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x20000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x5x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x20000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x100x10368 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x100x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x100x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S16x20000 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]
-- ==== ReferenceIdeal.lean ====
abbrev S16x100x4 : Shape := ⟨3, ![16, 100, 4]⟩
abbrev S16x100 : Shape := ⟨2, ![16, 100]⟩
abbrev S16x20000x4 : Shape := ⟨3, ![16, 20000, 4]⟩
abbrev S16x20000x81 : Shape := ⟨3, ![16, 20000, 81]⟩
abbrev S16x20000 : Shape := ⟨2, ![16, 20000]⟩
abbrev S_ : Shape := ⟨0, ![]⟩
abbrev S16x20000x1 : Shape := ⟨3, ![16, 20000, 1]⟩
abbrev S1 : Shape := ⟨1, ![1]⟩
abbrev S1x1x1 : Shape := ⟨3, ![1, 1, 1]⟩
abbrev S16 : Shape := ⟨1, ![16]⟩
abbrev S16x20000x1x1 : Shape := ⟨4, ![16, 20000, 1, 1]⟩
abbrev S1x1x1x1 : Shape := ⟨4, ![1, 1, 1, 1]⟩
abbrev S16x1 : Shape := ⟨2, ![16, 1]⟩

abbrev nBuf : Space → Nat
  | .hbm => 217
  | .vmem => 0
  | .smem => 0
  | _ => 0

abbrev hbmTy0_0 (i : Nat) : BufTy := match i % 128 with
  | 0 => ⟨S16x100x4, .f32⟩
  | 1 => ⟨S16x100, .i32⟩
  | 2 => ⟨S16x20000x4, .f32⟩
  | 3 => ⟨S16x20000x81, .f32⟩
  | 4 => ⟨S16x20000x4, .f32⟩
  | 5 => ⟨S16x20000, .i32⟩
  | 6 => ⟨S_, .i32⟩
  | 7 => ⟨S16x20000, .i32⟩
  | 8 => ⟨S16x20000, .i1⟩
  | 9 => ⟨S_, .i32⟩
  | 10 => ⟨S16x20000, .i32⟩
  | 11 => ⟨S16x20000, .i32⟩
  | 12 => ⟨S_, .i32⟩
  | 13 => ⟨S16x20000, .i32⟩
  | 14 => ⟨S16x20000, .i1⟩
  | 15 => ⟨S_, .i32⟩
  | 16 => ⟨S16x20000, .i32⟩
  | 17 => ⟨S16x20000, .i32⟩
  | 18 => ⟨S16x20000, .i32⟩
  | 19 => ⟨S16x20000x1, .i32⟩
  | 20 => ⟨S16x20000x4, .f32⟩
  | 21 => ⟨S_, .i32⟩
  | 22 => ⟨S16x20000, .i32⟩
  | 23 => ⟨S16x20000, .i1⟩
  | 24 => ⟨S_, .i32⟩
  | 25 => ⟨S16x20000, .i32⟩
  | 26 => ⟨S16x20000, .i32⟩
  | 27 => ⟨S16x20000, .i32⟩
  | 28 => ⟨S16x20000x1, .i32⟩
  | 29 => ⟨S1, .i32⟩
  | 30 => ⟨S_, .i32⟩
  | 31 => ⟨S16x20000x1, .i32⟩
  | 32 => ⟨S16x20000x1, .i1⟩
  | 33 => ⟨S1x1x1, .i32⟩
  | 34 => ⟨S16x20000x1, .i32⟩
  | 35 => ⟨S16x20000x1, .i1⟩
  | 36 => ⟨S16x20000x1, .i1⟩
  | 37 => ⟨S_, .i1⟩
  | 38 => ⟨S16x20000, .i1⟩
  | 39 => ⟨S16x20000, .i32⟩
  | 40 => ⟨S_, .i32⟩
  | 41 => ⟨S16x20000, .i32⟩
  | 42 => ⟨S16x20000, .i32⟩
  | 43 => ⟨S16x20000x1, .f32⟩
  | 44 => ⟨S16x20000, .f32⟩
  | 45 => ⟨S16x20000x1, .f32⟩
  | 46 => ⟨S16x20000, .f32⟩
  | 47 => ⟨S16x20000, .f32⟩
  | 48 => ⟨S16x20000x1, .f32⟩
  | 49 => ⟨S16x20000, .f32⟩
  | 50 => ⟨S16x20000x1, .f32⟩
  | 51 => ⟨S16x20000, .f32⟩
  | 52 => ⟨S16x20000, .f32⟩
  | 53 => ⟨S16x20000x1, .f32⟩
  | 54 => ⟨S16x20000, .f32⟩
  | 55 => ⟨S_, .f32⟩
  | 56 => ⟨S16x20000, .f32⟩
  | 57 => ⟨S16x20000, .f32⟩
  | 58 => ⟨S16x20000, .f32⟩
  | 59 => ⟨S16x20000x1, .f32⟩
  | 60 => ⟨S16x20000, .f32⟩
  | 61 => ⟨S_, .f32⟩
  | 62 => ⟨S16x20000, .f32⟩
  | 63 => ⟨S16x20000, .f32⟩
  | 64 => ⟨S16x20000, .f32⟩
  | 65 => ⟨S16x20000x1, .f32⟩
  | 66 => ⟨S16x20000, .f32⟩
  | 67 => ⟨S16x20000x1, .f32⟩
  | 68 => ⟨S16x20000, .f32⟩
  | 69 => ⟨S16x20000, .f32⟩
  | 70 => ⟨S16x20000x1, .f32⟩
  | 71 => ⟨S16x20000, .f32⟩
  | 72 => ⟨S16x20000x1, .f32⟩
  | 73 => ⟨S16x20000, .f32⟩
  | 74 => ⟨S16x20000, .f32⟩
  | 75 => ⟨S16x20000x1, .f32⟩
  | 76 => ⟨S16x20000, .f32⟩
  | 77 => ⟨S_, .f32⟩
  | 78 => ⟨S16x20000, .f32⟩
  | 79 => ⟨S16x20000, .f32⟩
  | 80 => ⟨S16x20000, .f32⟩
  | 81 => ⟨S16x20000x1, .f32⟩
  | 82 => ⟨S16x20000, .f32⟩
  | 83 => ⟨S_, .f32⟩
  | 84 => ⟨S16x20000, .f32⟩
  | 85 => ⟨S16x20000, .f32⟩
  | 86 => ⟨S16x20000, .f32⟩
  | 87 => ⟨S16x20000, .f32⟩
  | 88 => ⟨S_, .f32⟩
  | 89 => ⟨S16x20000, .f32⟩
  | 90 => ⟨S16x20000, .f32⟩
  | 91 => ⟨S16x20000, .f32⟩
  | 92 => ⟨S16x20000, .f32⟩
  | 93 => ⟨S_, .f32⟩
  | 94 => ⟨S16x20000, .f32⟩
  | 95 => ⟨S16x20000, .f32⟩
  | 96 => ⟨S16x20000, .f32⟩
  | 97 => ⟨S16x20000, .f32⟩
  | 98 => ⟨S16x20000, .f32⟩
  | 99 => ⟨S_, .f32⟩
  | 100 => ⟨S16x20000, .f32⟩
  | 101 => ⟨S16x20000, .f32⟩
  | 102 => ⟨S16x20000, .f32⟩
  | 103 => ⟨S16x20000, .f32⟩
  | 104 => ⟨S_, .f32⟩
  | 105 => ⟨S16x20000, .f32⟩
  | 106 => ⟨S16x20000, .f32⟩
  | 107 => ⟨S16x20000x1, .f32⟩
  | 108 => ⟨S16x20000x1, .f32⟩
  | 109 => ⟨S16x20000x1, .f32⟩
  | 110 => ⟨S16x20000x1, .f32⟩
  | 111 => ⟨S16x20000x4, .f32⟩
  | 112 => ⟨S16x20000x4, .f32⟩
  | 113 => ⟨S16x20000x4, .f32⟩
  | 114 => ⟨S_, .f32⟩
  | 115 => ⟨S16x20000x4, .f32⟩
  | 116 => ⟨S16x20000x4, .i1⟩
  | 117 => ⟨S_, .f32⟩
  | 118 => ⟨S16x20000x4, .f32⟩
  | 119 => ⟨S16x20000x4, .f32⟩
  | 120 => ⟨S16x20000x4, .f32⟩
  | 121 => ⟨S_, .f32⟩
  | 122 => ⟨S16x20000x4, .f32⟩
  | 123 => ⟨S16x20000x4, .f32⟩
  | 124 => ⟨S16x20000x4, .f32⟩
  | 125 => ⟨S16x20000, .f32⟩
  | 126 => ⟨S16x20000x1, .f32⟩
  | 127 => ⟨S16x20000x4, .f32⟩
  | _ => ⟨S16x100x4, .f32⟩

abbrev hbmTy0_1 (i : Nat) : BufTy := match i % 128 with
  | 0 => ⟨S16x20000x4, .f32⟩
  | 1 => ⟨S_, .f32⟩
  | 2 => ⟨S16, .f32⟩
  | 3 => ⟨S16x20000, .i32⟩
  | 4 => ⟨S_, .i32⟩
  | 5 => ⟨S_, .i32⟩
  | 6 => ⟨S_, .i32⟩
  | 7 => ⟨S_, .i32⟩
  | 8 => ⟨S16x20000, .i32⟩
  | 9 => ⟨S16x20000, .i32⟩
  | 10 => ⟨S_, .f32⟩
  | 11 => ⟨S16x20000, .f32⟩
  | 12 => ⟨S_, .f32⟩
  | 13 => ⟨S16x20000, .f32⟩
  | 14 => ⟨S16x20000, .f32⟩
  | 15 => ⟨S16x20000x1, .f32⟩
  | 16 => ⟨S16x20000x81, .f32⟩
  | 17 => ⟨S16x20000x81, .f32⟩
  | 18 => ⟨S16x20000x81, .f32⟩
  | 19 => ⟨S_, .f32⟩
  | 20 => ⟨S16x20000, .f32⟩
  | 21 => ⟨S16x20000x1, .f32⟩
  | 22 => ⟨S16x20000x1, .f32⟩
  | 23 => ⟨S16x20000x81, .f32⟩
  | 24 => ⟨S16x20000x81, .f32⟩
  | 25 => ⟨S16x20000x1, .i32⟩
  | 26 => ⟨S_, .i32⟩
  | 27 => ⟨S16x20000x1, .i32⟩
  | 28 => ⟨S16x20000x1, .i1⟩
  | 29 => ⟨S_, .i32⟩
  | 30 => ⟨S16x20000x1, .i32⟩
  | 31 => ⟨S16x20000x1, .i32⟩
  | 32 => ⟨S16x20000x1, .i32⟩
  | 33 => ⟨S16x20000x1x1, .i32⟩
  | 34 => ⟨S1, .i32⟩
  | 35 => ⟨S_, .i32⟩
  | 36 => ⟨S16x20000x1x1, .i32⟩
  | 37 => ⟨S16x20000x1x1, .i1⟩
  | 38 => ⟨S1x1x1x1, .i32⟩
  | 39 => ⟨S16x20000x1x1, .i32⟩
  | 40 => ⟨S16x20000x1x1, .i1⟩
  | 41 => ⟨S16x20000x1x1, .i1⟩
  | 42 => ⟨S_, .i1⟩
  | 43 => ⟨S16x20000x1, .i1⟩
  | 44 => ⟨S16x20000x1, .f32⟩
  | 45 => ⟨S_, .f32⟩
  | 46 => ⟨S16x20000x1, .f32⟩
  | 47 => ⟨S16x20000x1, .f32⟩
  | 48 => ⟨S16x20000, .f32⟩
  | 49 => ⟨S16x20000, .f32⟩
  | 50 => ⟨S_, .i32⟩
  | 51 => ⟨S16x20000, .i32⟩
  | 52 => ⟨S16x20000, .i1⟩
  | 53 => ⟨S16x20000, .i32⟩
  | 54 => ⟨S_, .i32⟩
  | 55 => ⟨S16, .i32⟩
  | 56 => ⟨S16x1, .i32⟩
  | 57 => ⟨S_, .i32⟩
  | 58 => ⟨S16x1, .i32⟩
  | 59 => ⟨S16x1, .i32⟩
  | 60 => ⟨S_, .f32⟩
  | 61 => ⟨S_, .f32⟩
  | 62 => ⟨S16x20000, .f32⟩
  | 63 => ⟨S16x20000, .f32⟩
  | 64 => ⟨S16x20000, .f32⟩
  | 65 => ⟨S16x20000, .i32⟩
  | 66 => ⟨S16x20000, .f32⟩
  | 67 => ⟨S16x20000, .i32⟩
  | 68 => ⟨S16x20000, .i32⟩
  | 69 => ⟨S16x20000, .i32⟩
  | 70 => ⟨S16x20000, .i32⟩
  | 71 => ⟨S16x20000, .i32⟩
  | 72 => ⟨S16x20000, .i1⟩
  | 73 => ⟨S_, .i32⟩
  | 74 => ⟨S_, .i32⟩
  | 75 => ⟨S_, .f32⟩
  | 76 => ⟨S_, .f32⟩
  | 77 => ⟨S_, .f32⟩
  | 78 => ⟨S_, .f32⟩
  | 79 => ⟨S16x20000, .f32⟩
  | 80 => ⟨S16x20000, .f32⟩
  | 81 => ⟨S_, .f32⟩
  | 82 => ⟨S_, .f32⟩
  | 83 => ⟨S16x20000, .f32⟩
  | 84 => ⟨S16x20000, .f32⟩
  | 85 => ⟨S_, .f32⟩
  | 86 => ⟨S_, .f32⟩
  | 87 => ⟨S_, .f32⟩
  | 88 => ⟨S_, .f32⟩
  | _ => ⟨S16x100x4, .f32⟩

abbrev hbmTy (i : Nat) : BufTy := match i / 128 with
  | 0 => hbmTy0_0 i
  | 1 => hbmTy0_1 i
  | _ => ⟨S16x100x4, .f32⟩

abbrev bufTy : (tb : Table) → Fin (tcTables nBuf tb) → BufTy
  | .hbm, ⟨i, _⟩ => hbmTy i
  | _, _ => ⟨S16x100x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_c_4 : Ref sig .tc := ⟨.hbm, 40, rfl⟩
abbrev main_call0_v14 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_3 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_4 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_5 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_6 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_7 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_8 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_9 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_10 : Ref sig .tc := ⟨.hbm, 114, rfl⟩
abbrev main_v75 : Ref sig .tc := ⟨.hbm, 115, rfl⟩
abbrev main_v76 : Ref sig .tc := ⟨.hbm, 116, rfl⟩
abbrev main_cst_11 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_12 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_13 : Ref sig .tc := ⟨.hbm, 129, rfl⟩
abbrev main_v87 : Ref sig .tc := ⟨.hbm, 130, rfl⟩
abbrev main_v88 : Ref sig .tc := ⟨.hbm, 131, rfl⟩
abbrev main_c_14 : Ref sig .tc := ⟨.hbm, 132, rfl⟩
abbrev main_v89 : Ref sig .tc := ⟨.hbm, 133, rfl⟩
abbrev main_c_15 : Ref sig .tc := ⟨.hbm, 134, rfl⟩
abbrev main_call2_v0 : Ref sig .tc := ⟨.hbm, 135, rfl⟩
abbrev main_call2_v1 : Ref sig .tc := ⟨.hbm, 136, rfl⟩
abbrev main_v90 : Ref sig .tc := ⟨.hbm, 137, rfl⟩
abbrev main_call3_cst : Ref sig .tc := ⟨.hbm, 138, rfl⟩
abbrev main_call3_v0 : Ref sig .tc := ⟨.hbm, 139, rfl⟩
abbrev main_call3_cst_0 : Ref sig .tc := ⟨.hbm, 140, rfl⟩
abbrev main_call3_v1 : Ref sig .tc := ⟨.hbm, 141, rfl⟩
abbrev main_call3_v2 : Ref sig .tc := ⟨.hbm, 142, rfl⟩
abbrev main_call3_v3 : Ref sig .tc := ⟨.hbm, 143, rfl⟩
abbrev main_call3_v4 : Ref sig .tc := ⟨.hbm, 144, rfl⟩
abbrev main_call3_v5 : Ref sig .tc := ⟨.hbm, 145, rfl⟩
abbrev main_call3_v6 : Ref sig .tc := ⟨.hbm, 146, rfl⟩
abbrev main_call3_cst_1 : Ref sig .tc := ⟨.hbm, 147, rfl⟩
abbrev main_call3_v7 : Ref sig .tc := ⟨.hbm, 148, rfl⟩
abbrev main_call3_v8 : Ref sig .tc := ⟨.hbm, 149, rfl⟩
abbrev main_call3_v9 : Ref sig .tc := ⟨.hbm, 150, rfl⟩
abbrev main_call3_v10 : Ref sig .tc := ⟨.hbm, 151, rfl⟩
abbrev main_v91 : Ref sig .tc := ⟨.hbm, 152, rfl⟩
abbrev main_v92 : Ref sig .tc := ⟨.hbm, 153, rfl⟩
abbrev main_call4_c : Ref sig .tc := ⟨.hbm, 154, rfl⟩
abbrev main_call4_v0 : Ref sig .tc := ⟨.hbm, 155, rfl⟩
abbrev main_call4_v1 : Ref sig .tc := ⟨.hbm, 156, rfl⟩
abbrev main_call4_c_0 : Ref sig .tc := ⟨.hbm, 157, rfl⟩
abbrev main_call4_v2 : Ref sig .tc := ⟨.hbm, 158, rfl⟩
abbrev main_call4_v3 : Ref sig .tc := ⟨.hbm, 159, rfl⟩
abbrev main_call4_v4 : Ref sig .tc := ⟨.hbm, 160, rfl⟩
abbrev main_call4_v5 : Ref sig .tc := ⟨.hbm, 161, rfl⟩
abbrev main_call4_c_1 : Ref sig .tc := ⟨.hbm, 162, rfl⟩
abbrev main_call4_c_2 : Ref sig .tc := ⟨.hbm, 163, rfl⟩
abbrev main_call4_v6 : Ref sig .tc := ⟨.hbm, 164, rfl⟩
abbrev main_call4_v7 : Ref sig .tc := ⟨.hbm, 165, rfl⟩
abbrev main_call4_v8 : Ref sig .tc := ⟨.hbm, 166, rfl⟩
abbrev main_call4_v9 : Ref sig .tc := ⟨.hbm, 167, rfl⟩
abbrev main_call4_v10 : Ref sig .tc := ⟨.hbm, 168, rfl⟩
abbrev main_call4_v11 : Ref sig .tc := ⟨.hbm, 169, rfl⟩
abbrev main_call4_c_3 : Ref sig .tc := ⟨.hbm, 170, rfl⟩
abbrev main_call4_v12 : Ref sig .tc := ⟨.hbm, 171, rfl⟩
abbrev main_call4_v13 : Ref sig .tc := ⟨.hbm, 172, rfl⟩
abbrev main_call4_cst : Ref sig .tc := ⟨.hbm, 173, rfl⟩
abbrev main_call4_v14 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_c_16 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_c_17 : Ref sig .tc := ⟨.hbm, 182, rfl⟩
abbrev main_v99 : Ref sig .tc := ⟨.hbm, 183, rfl⟩
abbrev main_v100 : Ref sig .tc := ⟨.hbm, 184, rfl⟩
abbrev main_c_18 : Ref sig .tc := ⟨.hbm, 185, rfl⟩
abbrev main_v101 : Ref sig .tc := ⟨.hbm, 186, rfl⟩
abbrev main_v102 : Ref sig .tc := ⟨.hbm, 187, rfl⟩
abbrev main_cst_19 : Ref sig .tc := ⟨.hbm, 188, rfl⟩
abbrev main_call5_v0 : Ref sig .tc := ⟨.hbm, 189, rfl⟩
abbrev main_call5_v1 : Ref sig .tc := ⟨.hbm, 190, rfl⟩
abbrev main_v103 : Ref sig .tc := ⟨.hbm, 191, rfl⟩
abbrev main_v104 : Ref sig .tc := ⟨.hbm, 192, rfl⟩
abbrev main_call6_v0 : Ref sig .tc := ⟨.hbm, 193, rfl⟩
abbrev main_call6_v1_0 : Ref sig .tc := ⟨.hbm, 194, rfl⟩
abbrev main_v105 : Ref sig .tc := ⟨.hbm, 195, rfl⟩
abbrev main_call7_v0 : Ref sig .tc := ⟨.hbm, 196, rfl⟩
abbrev main_call7_v1_0 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_c_20 : Ref sig .tc := ⟨.hbm, 201, rfl⟩
abbrev main_v109 : Ref sig .tc := ⟨.hbm, 202, rfl⟩
abbrev main_v110 : Ref sig .tc := ⟨.hbm, 203, rfl⟩
abbrev main_cst_21 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_cst_22 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_cst_23 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩

abbrev nD : Nat := 1
abbrev τ : Topo := Topo.v7x

variable {F : FTy → Type} [FloatOps F]
-- ==== Proof.PassA.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic
public import Idealize.ShloMosaic.Lib.WordCmp

/-! # The first call (box loss and class targets): what its body leaves in its two results, and its proof data -/

@[expose] public section

set_option maxRecDepth 16384

noncomputable section

namespace Cert.KernelIdeal.Ssd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values of the body, from the four blocks it loads (regressions, anchors, matches, boxes with labels) -/

/-- The class targets of the image. -/
def outA4 (x2 : Vec F S1x1x20000 .i32) (x3 : Vec F S1x5x100 .f32) : Vec F S1x1x20000 .f32 :=
  k0_pay22 (k0_pay4 x2) (k0_pay5 x2 x3)

/-- The running box loss after the image, from the running loss before it. -/
def outA5 (x0 x1 : Vec F S1x4x20000 .f32) (x2 : Vec F S1x1x20000 .i32) (x3 : Vec F S1x5x100 .f32) (acc : Vec F S1x1 .f32) : Vec F S1x1 .f32 :=
  k0_pay24 (k0_pay6 x2)
    (k0_pay15 (k0_pay1 x0) (k0_pay7 x1) (k0_pay11 x2 x3))
    (k0_pay16 (k0_pay1 x0) (k0_pay8 x1) (k0_pay12 x2 x3))
    (k0_pay17 (k0_pay1 x0) (k0_pay7 x1) (k0_pay9 x1) (k0_pay11 x2 x3) (k0_pay13 x2 x3))
    (k0_pay19 (k0_pay1 x0) (k0_pay5 x2 x3) (k0_pay8 x1) (k0_pay10 x1) (k0_pay12 x2 x3))
    (k0_pay20 (k0_pay1 x0) (k0_pay5 x2 x3) (k0_pay8 x1) (k0_pay10 x1) (k0_pay12 x2 x3))
    (k0_pay21 (k0_pay1 x0) (k0_pay5 x2 x3) (k0_pay8 x1) (k0_pay10 x1) (k0_pay12 x2 x3))
    acc

/-- The test of the body for the first point. -/
abbrev firstA (i : grid0.Coords) : Prop := (Scalar.cmpi .ne (Scalar.extui (Scalar.cmpi .eq (BitVec.ofNat 32 (i 0).val) 0#32)) 0#32) = 1#1

theorem firstA_iff : ∀ t : Fin cfg0.N, firstA (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    have e1 : t.val = 0 ↔ t.val % 16 = 0 := by omega
    rw [e1]
    simp only [firstA, e0]
    word_cmp
   : ∀ t : Fin grid0.N, firstA (grid0.coords t) ↔ t.val = 0)

set_option maxHeartbeats 1600000 in
/-- The body at the first point, on whole buffers: the running loss starts anew. -/
theorem passA_first (c : Dev nD) (E : Set ℕ) (i : grid0.Coords) (arg1 : Memref sig .tc .vmem S1x4x20000 .f32) (harg1 : arg1.IsWhole) (arg2 : Memref sig .tc .vmem S1x4x20000 .f32) (harg2 : arg2.IsWhole)
    (arg3 : Memref sig .tc .vmem S1x1x20000 .i32) (harg3 : arg3.IsWhole) (arg4 : Memref sig .tc .vmem S1x5x100 .f32) (harg4 : arg4.IsWhole)
    (arg5 : Memref sig .tc .vmem S1x1x20000 .f32) (harg5 : arg5.IsWhole) (arg6 : Memref sig .tc .vmem S1x1 .f32) (harg6 : arg6.IsWhole) (hc0 : firstA i)
    (x0 : Vec F S1x4x20000 .f32) (x1 : Vec F S1x4x20000 .f32) (x2 : Vec F S1x1x20000 .i32) (x3 : Vec F S1x5x100 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (outA4 x2 x3) ∗ owns (c : Thread nD τ) arg6 fullShare (outA5 x0 x1 x2 x3 k0_pay23)) -∗ K ⟨⟩))
      ⊢ wp frame (wpE (defs₀ (F := F)) Variants.none c none) E (cc0__passA_body i arg1 harg1 arg2 harg2 arg3 harg3 arg4 harg4 arg5 harg5 arg6 harg6) K := by
  simp only [cc0__passA_body_eq_skeleton]; unfold cc0__passA_body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_full _ _ _ _ _).trans ?_
    rw [← View.readAt_full arg3.view f2 inb_S1x1x20000_S1x1x20000_0_0_0, ← View.readAt_full arg4.view f3 inb_S1x5x100_S1x5x100_0_0_0]
    rfl
  iexists _; isplitr
  swap; · iexact H5
  ipureintro
  refine (View.read_writes_full _ _ _ _ _).trans ?_
  rw [← View.readAt_full arg1.view f0 inb_S1x4x20000_S1x4x20000_0_0_0, ← View.readAt_full arg2.view f1 inb_S1x4x20000_S1x4x20000_0_0_0,
    ← View.readAt_full arg3.view f2 inb_S1x1x20000_S1x1x20000_0_0_0, ← View.readAt_full arg4.view f3 inb_S1x5x100_S1x5x100_0_0_0]
  refine congrArg (outA5 _ _ _ _) ?_
  exact View.readCov_full _ _ _ _ _

set_option maxHeartbeats 1600000 in
/-- The body at a later point: it adds to the running loss. -/
theorem passA_later (c : Dev nD) (E : Set ℕ) (i : grid0.Coords) (arg1 : Memref sig .tc .vmem S1x4x20000 .f32) (harg1 : arg1.IsWhole) (arg2 : Memref sig .tc .vmem S1x4x20000 .f32) (harg2 : arg2.IsWhole)
    (arg3 : Memref sig .tc .vmem S1x1x20000 .i32) (harg3 : arg3.IsWhole) (arg4 : Memref sig .tc .vmem S1x5x100 .f32) (harg4 : arg4.IsWhole)
    (arg5 : Memref sig .tc .vmem S1x1x20000 .f32) (harg5 : arg5.IsWhole) (arg6 : Memref sig .tc .vmem S1x1 .f32) (harg6 : arg6.IsWhole) (hc0 : ¬ firstA i)
    (x0 : Vec F S1x4x20000 .f32) (x1 : Vec F S1x4x20000 .f32) (x2 : Vec F S1x1x20000 .i32) (x3 : Vec F S1x5x100 .f32) (acc : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare acc
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (outA4 x2 x3) ∗ owns (c : Thread nD τ) arg6 fullShare (outA5 x0 x1 x2 x3 acc)) -∗ K ⟨⟩))
      ⊢ wp frame (wpE (defs₀ (F := F)) Variants.none c none) E (cc0__passA_body i arg1 harg1 arg2 harg2 arg3 harg3 arg4 harg4 arg5 harg5 arg6 harg6) K := by
  simp only [cc0__passA_body_eq_skeleton]; unfold cc0__passA_body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_full _ _ _ _ _).trans ?_
    rw [← View.readAt_full arg3.view f2 inb_S1x1x20000_S1x1x20000_0_0_0, ← View.readAt_full arg4.view f3 inb_S1x5x100_S1x5x100_0_0_0]
    rfl
  iexists _; isplitr
  swap; · iexact H5
  ipureintro
  refine (View.read_writes_full _ _ _ _ _).trans ?_
  rw [← View.readAt_full arg1.view f0 inb_S1x4x20000_S1x4x20000_0_0_0, ← View.readAt_full arg2.view f1 inb_S1x4x20000_S1x4x20000_0_0_0,
    ← View.readAt_full arg3.view f2 inb_S1x1x20000_S1x1x20000_0_0_0, ← View.readAt_full arg4.view f3 inb_S1x5x100_S1x5x100_0_0_0]
  refine congrArg (outA5 _ _ _ _) ?_
  exact (View.readAt_full _ _ _).trans hf5

/-! ## The proof data -/

-- the buffers' contents when the call is entered
variable (V : (c : Dev nD) → (b : Ref sig .tc) → Buf (Elt F) ((c : Thread nD τ).loc b))

/-- Window `w`'s block at point `t`, read off its array as the call finds it. -/
def blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running loss after point `n`. -/
def accA (c : Dev nD) : (n : ℕ) → n < cfg0.N → Vec F S1x1 .f32
  | 0, h => outA5 (blkA V c 0 ⟨0, h⟩) (blkA V c 1 ⟨0, h⟩) (blkA V c 2 ⟨0, h⟩) (blkA V c 3 ⟨0, h⟩) k0_pay23
  | n + 1, h => outA5 (blkA V c 0 ⟨n + 1, h⟩) (blkA V c 1 ⟨n + 1, h⟩) (blkA V c 2 ⟨n + 1, h⟩) (blkA V c 3 ⟨n + 1, h⟩)
      (accA c n (Nat.lt_of_succ_lt h))

/-- The arrays as found; after the body each input's buffer at its block, the targets' at the image's, the loss's at the running loss. -/
def datA (c : Dev nD) : Dat τ (Elt F) Unit ℕ (UR sig nD τ) ℕ cfg0 c where
  A w := V c (Pipeline.arrRef spec0 w)
  after w t := match w with
    | ⟨0, _⟩ => blkA V c 0 t
    | ⟨1, _⟩ => blkA V c 1 t
    | ⟨2, _⟩ => blkA V c 2 t
    | ⟨3, _⟩ => blkA V c 3 t
    | ⟨4, _⟩ => outA4 (blkA V c 2 t) (blkA V c 3 t)
    | ⟨5, _⟩ => accA V c t.val t.isLt
  Φ _ := Pipeline.ΦA spec0 c
  q _ := fullShare
  owed _ := 0

theorem datA_A (c : Dev nD) (w : Fin cfg0.W) : (datA V c).A w = V c (Pipeline.arrRef spec0 w) := by dsimp only [datA]
theorem afterA0 (c : Dev nD) (t : Fin cfg0.N) : (datA V c).after 0 t = blkA V c 0 t := by dsimp only [datA]
theorem afterA1 (c : Dev nD) (t : Fin cfg0.N) : (datA V c).after 1 t = blkA V c 1 t := by dsimp only [datA]
theorem afterA2 (c : Dev nD) (t : Fin cfg0.N) : (datA V c).after 2 t = blkA V c 2 t := by dsimp only [datA]
theorem afterA3 (c : Dev nD) (t : Fin cfg0.N) : (datA V c).after 3 t = blkA V c 3 t := by dsimp only [datA]
theorem afterA4 (c : Dev nD) (t : Fin cfg0.N) : (datA V c).after 4 t = outA4 (blkA V c 2 t) (blkA V c 3 t) := by dsimp only [datA]
theorem afterA5 (c : Dev nD) (t : Fin cfg0.N) : (datA V c).after 5 t = accA V c t.val t.isLt := by dsimp only [datA]

/-! Each input's buffer holds its block when the body runs. -/

theorem beforeA0 (c : Dev nD) (t : Fin cfg0.N) (d) : (datA V c).before 0 t d = blkA V c 0 t :=
  ((datA V c).before_in_eq_fetched 0 rfl (fun _ => rfl) (fun _ _ _ => rfl)
    (fun t => by rw [afterA0]; unfold Dat.blockOf blkA; rw [datA_A]) t d).trans
    (by unfold Dat.fetched Dat.blockOf blkA; rw [datA_A]; try rfl)
theorem beforeA1 (c : Dev nD) (t : Fin cfg0.N) (d) : (datA V c).before 1 t d = blkA V c 1 t :=
  ((datA V c).before_in_eq_fetched 1 rfl (fun _ => rfl) (fun _ _ _ => rfl)
    (fun t => by rw [afterA1]; unfold Dat.blockOf blkA; rw [datA_A]) t d).trans
    (by unfold Dat.fetched Dat.blockOf blkA; rw [datA_A]; try rfl)
theorem beforeA2 (c : Dev nD) (t : Fin cfg0.N) (d) : (datA V c).before 2 t d = blkA V c 2 t :=
  ((datA V c).before_in_eq_fetched 2 rfl (fun _ => rfl) (fun _ _ _ => rfl)
    (fun t => by rw [afterA2]; unfold Dat.blockOf blkA; rw [datA_A]) t d).trans
    (by unfold Dat.fetched Dat.blockOf blkA; rw [datA_A]; try rfl)
theorem beforeA3 (c : Dev nD) (t : Fin cfg0.N) (d) : (datA V c).before 3 t d = blkA V c 3 t :=
  ((datA V c).before_in_eq_fetched 3 rfl (fun _ => rfl) (fun _ _ _ => rfl)
    (fun t => by rw [afterA3]; unfold Dat.blockOf blkA; rw [datA_A]) t d).trans
    (by unfold Dat.fetched Dat.blockOf blkA; rw [datA_A]; try rfl)

/-- The running loss's buffer holds, at a later point, what the point before left. -/
theorem beforeA5 (c : Dev nD) (t : Fin cfg0.N) (h0 : t.val ≠ 0) (d) :
    (datA V c).before 5 t d = accA V c (t.val - 1) (Nat.lt_of_le_of_lt (Nat.sub_le _ _) t.isLt) := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [datA]

theorem accA_first (c : Dev nD) (t : Fin cfg0.N) (h0 : t.val = 0) :
    accA V c t.val t.isLt = outA5 (blkA V c 0 t) (blkA V c 1 t) (blkA V c 2 t) (blkA V c 3 t) k0_pay23 := by
  obtain ⟨n, hn⟩ := t
  cases n with
  | zero => rfl
  | succ n => exact absurd h0 (Nat.succ_ne_zero n)

theorem accA_later (c : Dev nD) (t : Fin cfg0.N) (h0 : t.val ≠ 0) :
    accA V c t.val t.isLt = outA5 (blkA V c 0 t) (blkA V c 1 t) (blkA V c 2 t) (blkA V c 3 t)
      (accA V c (t.val - 1) (Nat.lt_of_le_of_lt (Nat.sub_le _ _) t.isLt)) := by
  obtain ⟨n, hn⟩ := t
  cases n with
  | zero => exact absurd rfl h0
  | succ n => rfl

set_option maxHeartbeats 800000 in
/-- The body at a point, from what its windows hold before it to what they hold after. -/
theorem passA_at (c : Dev nD) (t : Fin cfg0.N) :
    iprop((datA V c).Φ t.castSucc ∗ (datA V c).owesAt () t.castSucc
      ∗ (∃ d, owns (c : Thread nD τ) (st0_0 t) fullShare ((datA V c).before 0 t d))
      ∗ (∃ d, owns (c : Thread nD τ) (st0_1 t) fullShare ((datA V c).before 1 t d))
      ∗ (∃ d, owns (c : Thread nD τ) (st0_2 t) fullShare ((datA V c).before 2 t d))
      ∗ (∃ d, owns (c : Thread nD τ) (st0_3 t) fullShare ((datA V c).before 3 t d))
      ∗ (∃ d, owns (c : Thread nD τ) (st0_4 t) fullShare ((datA V c).before 4 t d))
      ∗ (∃ d, owns (c : Thread nD τ) (st0_5 t) fullShare ((datA V c).before 5 t d)))
    ⊢ wp frame (wpE (defs₀ (F := F)) Variants.none c none) Set.univ (bodyAt0 t) (fun _ =>
      iprop((datA V c).Φ t.succ ∗ (datA V c).owesAt () t.succ
        ∗ owns (c : Thread nD τ) (st0_0 t) fullShare ((datA V c).after 0 t)
        ∗ owns (c : Thread nD τ) (st0_1 t) fullShare ((datA V c).after 1 t)
        ∗ owns (c : Thread nD τ) (st0_2 t) fullShare ((datA V c).after 2 t)
        ∗ owns (c : Thread nD τ) (st0_3 t) fullShare ((datA V c).after 3 t)
        ∗ owns (c : Thread nD τ) (st0_4 t) fullShare ((datA V c).after 4 t)
        ∗ owns (c : Thread nD τ) (st0_5 t) fullShare ((datA V c).after 5 t))) := by
  unfold bodyAt0
  simp only [beforeA0, beforeA1, beforeA2, beforeA3]
  rw [show (datA V c).Φ t.succ = (datA V c).Φ t.castSucc from rfl,
    show (datA V c).owesAt () t.succ = (datA V c).owesAt () t.castSucc from rfl,
    afterA0, afterA1, afterA2, afterA3, afterA4, afterA5]
  by_cases h0 : t.val = 0
  · rw [accA_first V c t h0]
    iintro ⟨HΦ, Ho, ⟨%d0, H0⟩, ⟨%d1, H1⟩, ⟨%d2, H2⟩, ⟨%d3, H3⟩, ⟨%d4, H4⟩, ⟨%d5, H5⟩⟩
    iapply (passA_first c Set.univ (grid0.coords t) _ _ _ _ _ _ _ _ _ _ _ _ ((firstA_iff t).mpr h0) (blkA V c 0 t) (blkA V c 1 t) (blkA V c 2 t) (blkA V c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [accA_later V c t h0]
    simp only [beforeA5 V c t h0]
    iintro ⟨HΦ, Ho, ⟨%d0, H0⟩, ⟨%d1, H1⟩, ⟨%d2, H2⟩, ⟨%d3, H3⟩, ⟨%d4, H4⟩, ⟨%d5, H5⟩⟩
    iapply (passA_later c Set.univ (grid0.coords t) _ _ _ _ _ _ _ _ _ _ _ _ (fun h => h0 ((firstA_iff t).mp h)) (blkA V c 0 t) (blkA V c 1 t) (blkA V c 2 t) (blkA V c 3 t) _ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem defsA (t : Fin cfg0.N) :
    defs₀ (F := F) .tc cfg0.body (cfg0.bodyArgs t (cfg0.slots t)) = bodyAt0 t := by
  unfold defs₀; rw [Defs.onTc_tc]

/-- The pipeline's obligation on the body, at every point. -/
theorem obligationA (c : Dev nD) : BodyObligation (datA (F := F) V c) (defs₀ (F := F)) Variants.none () Set.univ := fun t => by
  rw [bigSep_W0, bigSep_W0, defsA]
  exact triple_restated (passA_at V c t) rfl .rfl fun _ => .rfl

end Cert.KernelIdeal.Ssd
-- ==== Proof.PassB.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic
public import Idealize.ShloMosaic.Lib.WordCmp

/-! # The second call (the class losses): what its body leaves in its two results and in its scratch, and its proof data -/

@[expose] public section

set_option maxRecDepth 16384

noncomputable section

namespace Cert.KernelIdeal.Ssd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values of the body, from the two blocks it loads (logits, targets) and the scratch matrix -/

/-- The class loss of the block's anchors, with the foreground marked. -/
def outB2 (x0 : Vec F S1x100x10368 .f32) (x1 : Vec F S1x100x128 .f32) (w : Vec F S10368x128 .f32) : Vec F S1x100x128 .f32 :=
  k1_pay2 (k1_pay6 x1) (k1_pay7 x0 x1 w) k1_pay8

/-- The running foreground loss after the block, from the one before it. -/
def outB3 (x0 : Vec F S1x100x10368 .f32) (x1 : Vec F S1x100x128 .f32) (w : Vec F S10368x128 .f32) (acc : Vec F S1x1 .f32) : Vec F S1x1 .f32 :=
  k1_pay3 (k1_pay6 x1) (k1_pay7 x0 x1 w) k1_pay8 acc

/-- The test of the body for the first point. -/
abbrev firstB (i : grid1.Coords) : Prop := (Scalar.cmpi .ne (Scalar.extui (Scalar.cmpi .eq (BitVec.ofNat 32 (i 0).val) 0#32)) 0#32) = 1#1

theorem firstB_iff : ∀ t : Fin cfg1.N, firstB (grid1.coords t) ↔ t.val = 0 :=
  (fun t => by
    have ht : t.val < 25 := Nat.lt_of_lt_of_eq t.isLt N_1
    have e0 : (grid1.coords t 0).val = t.val / 1 % 25 := Pipeline.Grid.coords_val t 0 (by decide) rfl
    have e1 : t.val = 0 ↔ t.val % 25 = 0 := by omega
    rw [e1]
    simp only [firstB, e0]
    word_cmp
   : ∀ t : Fin grid1.N, firstB (grid1.coords t) ↔ t.val = 0)

set_option maxHeartbeats 1600000 in
/-- The body at the first point, on whole buffers: the matrix is written into the scratch and the running loss starts anew. -/
theorem passB_first (c : Dev nD) (E : Set ℕ) (i : grid1.Coords) (arg1 : Memref sig .tc .vmem S1x100x10368 .f32) (harg1 : arg1.IsWhole) (arg2 : Memref sig .tc .vmem S1x100x128 .f32) (harg2 : arg2.IsWhole)
    (arg3 : Memref sig .tc .vmem S1x100x128 .f32) (harg3 : arg3.IsWhole) (arg4 : Memref sig .tc .vmem S1x1 .f32) (harg4 : arg4.IsWhole)
    (arg5 : Memref sig .tc .vmem S10368x128 .f32) (harg5 : arg5.IsWhole) (hc0 : firstB i)
    (x0 : Vec F S1x100x10368 .f32) (x1 : Vec F S1x100x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (outB2 x0 x1 k1_pay4) ∗ owns (c : Thread nD τ) arg4 fullShare (outB3 x0 x1 k1_pay4 k1_pay5)
            ∗ owns (c : Thread nD τ) arg5 fullShare (k1_pay4 (F := F))) -∗ K ⟨⟩))
      ⊢ wp frame (wpE (defs₀ (F := F)) Variants.none c none) E (cc1__passB_body i arg1 harg1 arg2 harg2 arg3 harg3 arg4 harg4 arg5 harg5) K := by
  simp only [cc1__passB_body_eq_skeleton]; unfold cc1__passB_body_skel
  simp only [k1_part1_eq_skeleton]
  unfold owns
  iintro ⟨⟨%f0, %hf0, H0⟩, ⟨%f1, %hf1, H1⟩, ⟨%d2, %f2, -, H2⟩, ⟨%d3, %f3, -, H3⟩, ⟨%d4, %f4, -, HS⟩, Hk⟩
  subst hf0 hf1
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_full _ _ _ _ _).trans ?_
    rw [← View.readAt_full arg1.view f0 inb_S1x100x10368_S1x100x10368_0_0_0, ← View.readAt_full arg2.view f1 inb_S1x100x128_S1x100x128_0_0_0]
    refine congrArg (outB2 _ _) ?_
    exact View.readCov_full _ _ _ _ _
  isplitl [H3]
  · iexists _; isplitr
    swap; · iexact H3
    ipureintro
    refine (View.read_writes_full _ _ _ _ _).trans ?_
    rw [← View.readAt_full arg1.view f0 inb_S1x100x10368_S1x100x10368_0_0_0, ← View.readAt_full arg2.view f1 inb_S1x100x128_S1x100x128_0_0_0]
    refine congrArg₂ (outB3 _ _) ?_ ?_
    · exact View.readCov_full _ _ _ _ _
    exact View.readCov_full _ _ _ _ _
  iexists _; isplitr
  swap; · iexact HS
  ipureintro
  exact View.read_writes_full _ _ _ _ _

set_option maxHeartbeats 1600000 in
/-- The body at a later point: the scratch still holds the matrix, and the body adds to the running loss. -/
theorem passB_later (c : Dev nD) (E : Set ℕ) (i : grid1.Coords) (arg1 : Memref sig .tc .vmem S1x100x10368 .f32) (harg1 : arg1.IsWhole) (arg2 : Memref sig .tc .vmem S1x100x128 .f32) (harg2 : arg2.IsWhole)
    (arg3 : Memref sig .tc .vmem S1x100x128 .f32) (harg3 : arg3.IsWhole) (arg4 : Memref sig .tc .vmem S1x1 .f32) (harg4 : arg4.IsWhole)
    (arg5 : Memref sig .tc .vmem S10368x128 .f32) (harg5 : arg5.IsWhole) (hc0 : ¬ firstB i)
    (x0 : Vec F S1x100x10368 .f32) (x1 : Vec F S1x100x128 .f32) (acc : Vec F S1x1 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare acc ∗ owns (c : Thread nD τ) arg5 fullShare (k1_pay4 (F := F))
        ∗ (iprop(owns (c : Thread nD τ) arg1 fullShare x0 ∗ owns (c : Thread nD τ) arg2 fullShare x1
            ∗ owns (c : Thread nD τ) arg3 fullShare (outB2 x0 x1 k1_pay4) ∗ owns (c : Thread nD τ) arg4 fullShare (outB3 x0 x1 k1_pay4 acc)
            ∗ owns (c : Thread nD τ) arg5 fullShare (k1_pay4 (F := F))) -∗ K ⟨⟩))
      ⊢ wp frame (wpE (defs₀ (F := F)) Variants.none c none) E (cc1__passB_body i arg1 harg1 arg2 harg2 arg3 harg3 arg4 harg4 arg5 harg5) K := by
  simp only [cc1__passB_body_eq_skeleton]; unfold cc1__passB_body_skel
  simp only [k1_part1_eq_skeleton]
  unfold owns
  iintro ⟨⟨%f0, %hf0, H0⟩, ⟨%f1, %hf1, H1⟩, ⟨%d2, %f2, -, H2⟩, ⟨%f3, %hf3, H3⟩, ⟨%f4, %hf4, HS⟩, Hk⟩
  subst hf0 hf1
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_full _ _ _ _ _).trans ?_
    rw [← View.readAt_full arg1.view f0 inb_S1x100x10368_S1x100x10368_0_0_0, ← View.readAt_full arg2.view f1 inb_S1x100x128_S1x100x128_0_0_0]
    refine congrArg (outB2 _ _) ?_
    exact (View.readAt_full _ _ _).trans hf4
  isplitl [H3]
  · iexists _; isplitr
    swap; · iexact H3
    ipureintro
    refine (View.read_writes_full _ _ _ _ _).trans ?_
    rw [← View.readAt_full arg1.view f0 inb_S1x100x10368_S1x100x10368_0_0_0, ← View.readAt_full arg2.view f1 inb_S1x100x128_S1x100x128_0_0_0]
    refine congrArg₂ (outB3 _ _) ?_ ?_
    · exact (View.readAt_full _ _ _).trans hf4
    exact (View.readAt_full _ _ _).trans hf3
  iexists _; isplitr
  swap; · iexact HS
  ipureintro
  exact hf4

/-! ## The proof data -/

/-- The scratch of the call, as the memref that the body is given. -/
abbrev scB : Memref sig .tc .vmem S10368x128 .f32 := Memref.whole cc1_scratch0

/-- The launch's invariant, with the scratch taken out of the scoped buffers. -/
theorem phiB_eq (c : Dev nD) :
    (Pipeline.ΦA spec1 c : sProp 𝕄)
      = iprop(iprop((∃ d, owns (c : Thread nD τ) scB fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scB, owns_whole]
  rfl

-- the buffers' contents when the call is entered
variable (V : (c : Dev nD) → (b : Ref sig .tc) → Buf (Elt F) ((c : Thread nD τ).loc b))

/-- Window `w`'s block at point `t`, read off its array as the call finds it. -/
def blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running loss after point `n`. -/
def accB (c : Dev nD) : (n : ℕ) → n < cfg1.N → Vec F S1x1 .f32
  | 0, h => outB3 (blkB V c 0 ⟨0, h⟩) (blkB V c 1 ⟨0, h⟩) k1_pay4 k1_pay5
  | n + 1, h => outB3 (blkB V c 0 ⟨n + 1, h⟩) (blkB V c 1 ⟨n + 1, h⟩) k1_pay4 (accB c n (Nat.lt_of_succ_lt h))

/-- The invariant between the points: before the first the launch's own, afterwards the scratch holds the matrix. -/
def phiB (c : Dev nD) (n : ℕ) : sProp 𝕄 :=
  if n = 0 then Pipeline.ΦA spec1 c
  else iprop(iprop(owns (c : Thread nD τ) scB fullShare (k1_pay4 (F := F))
    ∗ Pipeline.scopedRestBut (Ix := Unit) (Name := ℕ) (U := UR sig nD τ) (Lvl := ℕ) (Val := Elt F) spec1 c [cc1_scratch0]) ∗ (∃ r, prngReg c r))

theorem phiB_zero (c : Dev nD) : (phiB c 0 : sProp 𝕄) = Pipeline.ΦA spec1 c := if_pos rfl
theorem phiB_pos (c : Dev nD) (n : ℕ) (h : n ≠ 0) : (phiB c n : sProp 𝕄)
    = iprop(iprop(owns (c : Thread nD τ) scB fullShare (k1_pay4 (F := F))
    ∗ Pipeline.scopedRestBut (Ix := Unit) (Name := ℕ) (U := UR sig nD τ) (Lvl := ℕ) (Val := Elt F) spec1 c [cc1_scratch0]) ∗ (∃ r, prngReg c r)) := if_neg h

/-- The arrays as found; after the body each input's buffer at its block, the losses' at the block's, the sum's at the running loss. -/
def datB (c : Dev nD) : Dat τ (Elt F) Unit ℕ (UR sig nD τ) ℕ cfg1 c where
  A w := V c (Pipeline.arrRef spec1 w)
  after w t := match w with
    | ⟨0, _⟩ => blkB V c 0 t
    | ⟨1, _⟩ => blkB V c 1 t
    | ⟨2, _⟩ => outB2 (blkB V c 0 t) (blkB V c 1 t) k1_pay4
    | ⟨3, _⟩ => accB V c t.val t.isLt
  Φ t := phiB c t.val
  q _ := fullShare
  owed _ := 0

theorem datB_A (c : Dev nD) (w : Fin cfg1.W) : (datB V c).A w = V c (Pipeline.arrRef spec1 w) := by dsimp only [datB]
theorem afterB0 (c : Dev nD) (t : Fin cfg1.N) : (datB V c).after 0 t = blkB V c 0 t := by dsimp only [datB]
theorem afterB1 (c : Dev nD) (t : Fin cfg1.N) : (datB V c).after 1 t = blkB V c 1 t := by dsimp only [datB]
theorem afterB2 (c : Dev nD) (t : Fin cfg1.N) : (datB V c).after 2 t = outB2 (blkB V c 0 t) (blkB V c 1 t) k1_pay4 := by dsimp only [datB]
theorem afterB3 (c : Dev nD) (t : Fin cfg1.N) : (datB V c).after 3 t = accB V c t.val t.isLt := by dsimp only [datB]
theorem phiB_at (c : Dev nD) (t : Fin (cfg1.N + 1)) : (datB V c).Φ t = phiB c t.val := by dsimp only [datB]

/-! Each input's buffer holds its block when the body runs. -/

theorem beforeB0 (c : Dev nD) (t : Fin cfg1.N) (d) : (datB V c).before 0 t d = blkB V c 0 t :=
  ((datB V c).before_in_eq_fetched 0 rfl (fun _ => rfl) (fun _ _ _ => rfl)
    (fun t => by rw [afterB0]; unfold Dat.blockOf blkB; rw [datB_A]) t d).trans
    (by unfold Dat.fetched Dat.blockOf blkB; rw [datB_A]; try rfl)
theorem beforeB1 (c : Dev nD) (t : Fin cfg1.N) (d) : (datB V c).before 1 t d = blkB V c 1 t :=
  ((datB V c).before_in_eq_fetched 1 rfl (fun _ => rfl) (fun _ _ _ => rfl)
    (fun t => by rw [afterB1]; unfold Dat.blockOf blkB; rw [datB_A]) t d).trans
    (by unfold Dat.fetched Dat.blockOf blkB; rw [datB_A]; try rfl)

/-- The running loss's buffer holds, at a later point, what the point before left. -/
theorem beforeB3 (c : Dev nD) (t : Fin cfg1.N) (h0 : t.val ≠ 0) (d) :
    (datB V c).before 3 t d = accB V c (t.val - 1) (Nat.lt_of_le_of_lt (Nat.sub_le _ _) t.isLt) := by
  have hN : t.val < 25 := lt_of_lt_of_eq t.isLt (show cfg1.N = 25 from N_1)
  rw [Dat.before_out_kept _ 3 rfl t (by omega) (Bool.eq_false_iff.mpr fun h => by have := (flush1_3 _).mp h; dsimp only at this; omega)
    (fun _ => rfl) (fun _ _ => rfl)]
  dsimp only [datB]

theorem accB_first (c : Dev nD) (t : Fin cfg1.N) (h0 : t.val = 0) :
    accB V c t.val t.isLt = outB3 (blkB V c 0 t) (blkB V c 1 t) k1_pay4 k1_pay5 := by
  obtain ⟨n, hn⟩ := t
  cases n with
  | zero => rfl
  | succ n => exact absurd h0 (Nat.succ_ne_zero n)

theorem accB_later (c : Dev nD) (t : Fin cfg1.N) (h0 : t.val ≠ 0) :
    accB V c t.val t.isLt = outB3 (blkB V c 0 t) (blkB V c 1 t) k1_pay4
      (accB V c (t.val - 1) (Nat.lt_of_le_of_lt (Nat.sub_le _ _) t.isLt)) := by
  obtain ⟨n, hn⟩ := t
  cases n with
  | zero => exact absurd rfl h0
  | succ n => rfl

set_option maxHeartbeats 800000 in
/-- The body at a point, from what its windows hold before it to what they hold after. -/
theorem passB_at (c : Dev nD) (t : Fin cfg1.N) :
    iprop((datB V c).Φ t.castSucc ∗ (datB V c).owesAt () t.castSucc
      ∗ (∃ d, owns (c : Thread nD τ) (st1_0 t) fullShare ((datB V c).before 0 t d))
      ∗ (∃ d, owns (c : Thread nD τ) (st1_1 t) fullShare ((datB V c).before 1 t d))
      ∗ (∃ d, owns (c : Thread nD τ) (st1_2 t) fullShare ((datB V c).before 2 t d))
      ∗ (∃ d, owns (c : Thread nD τ) (st1_3 t) fullShare ((datB V c).before 3 t d)))
    ⊢ wp frame (wpE (defs₀ (F := F)) Variants.none c none) Set.univ (bodyAt1 t) (fun _ =>
      iprop((datB V c).Φ t.succ ∗ (datB V c).owesAt () t.succ
        ∗ owns (c : Thread nD τ) (st1_0 t) fullShare ((datB V c).after 0 t)
        ∗ owns (c : Thread nD τ) (st1_1 t) fullShare ((datB V c).after 1 t)
        ∗ owns (c : Thread nD τ) (st1_2 t) fullShare ((datB V c).after 2 t)
        ∗ owns (c : Thread nD τ) (st1_3 t) fullShare ((datB V c).after 3 t))) := by
  unfold bodyAt1
  simp only [beforeB0, beforeB1]
  rw [show (datB V c).owesAt () t.succ = (datB V c).owesAt () t.castSucc from rfl,
    afterB0, afterB1, afterB2, afterB3, phiB_at, phiB_at, phiB_pos c t.succ.val (by rw [Fin.val_succ]; omega)]
  by_cases h0 : t.val = 0
  · rw [accB_first V c t h0, show (t.castSucc).val = 0 from h0, phiB_zero, phiB_eq]
    iintro ⟨⟨⟨HS, HR⟩, Hg⟩, Ho, ⟨%d0, H0⟩, ⟨%d1, H1⟩, ⟨%d2, H2⟩, ⟨%d3, H3⟩⟩
    iapply (passB_first c Set.univ (grid1.coords t) _ _ _ _ _ _ _ _ _ _ ((firstB_iff t).mpr h0) (blkB V c 0 t) (blkB V c 1 t) _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [accB_later V c t h0, phiB_pos c (t.castSucc).val h0]
    simp only [beforeB3 V c t h0]
    iintro ⟨⟨⟨HS, HR⟩, Hg⟩, Ho, ⟨%d0, H0⟩, ⟨%d1, H1⟩, ⟨%d2, H2⟩, ⟨%d3, H3⟩⟩
    iapply (passB_later c Set.univ (grid1.coords t) _ _ _ _ _ _ _ _ _ _ (fun h => h0 ((firstB_iff t).mp h)) (blkB V c 0 t) (blkB V c 1 t) _ _)
    isplitl [H0]; · iexact H0
    isplitl [H1]; · iexact H1
    isplitl [H2]; · iexists _; iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

theorem defsB (t : Fin cfg1.N) :
    defs₀ (F := F) .tc cfg1.body (cfg1.bodyArgs t (cfg1.slots t)) = bodyAt1 t := by
  unfold defs₀; rw [Defs.onTc_tc]

/-- The pipeline's obligation on the body, at every point. -/
theorem obligationB (c : Dev nD) : BodyObligation (datB (F := F) V c) (defs₀ (F := F)) Variants.none () Set.univ := fun t => by
  rw [bigSep_W1, bigSep_W1, defsB]
  exact triple_restated (passB_at V c t) rfl .rfl fun _ => .rfl

/-- The launch's invariant is the one before the first point. -/
theorem phiB_in (c : Dev nD) : Pipeline.ΦA spec1 c ⊢ (datB (F := F) V c).Φ 0 := by
  rw [phiB_at, show ((0 : Fin (cfg1.N + 1)).val) = 0 from rfl, phiB_zero]

/-- After the last point the launch's invariant is given back. -/
theorem phiB_out (c : Dev nD) : (datB (F := F) V c).Φ (Fin.last cfg1.N) ⊢ Pipeline.ΦA spec1 c := by
  rw [phiB_at, phiB_pos c (Fin.last cfg1.N).val (by rw [Fin.val_last]; have : cfg1.N = 25 := N_1; omega), phiB_eq]
  iintro ⟨⟨HS, HR⟩, Hg⟩
  isplitl [HS HR]
  · isplitl [HS]
    · iexists _; iexact HS
    iexact HR
  iexact Hg

end Cert.KernelIdeal.Ssd
-- ==== Proof.PassC.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic

/-! # The third call (selection): what its body leaves in its two results, and its proof data -/

@[expose] public section

set_option maxRecDepth 16384

noncomputable section

namespace Cert.KernelIdeal.Ssd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values of the body, from the block it loads

The 32 steps of the search are printed in several parts; each part hands on the bits found so far
and some vectors that the next part goes on with. -/

/-- The number of elements wanted in each row. -/
def cCount (x : Vec F S16x20000 .f32) : IVec S16x1 32 := k2_pay3 x
/-- The keys that the search compares. -/
def cKey (x : Vec F S16x20000 .f32) : IVec S16x20000 32 := k2_pay5 x
/-- The bits found after the part's steps, and what the next part reads beside them. -/
def cA (x : Vec F S16x20000 .f32) : IVec S16x1 32 := k2_pay7 (cCount x) (cKey x) (k2_pay6 x)
def cA' (x : Vec F S16x20000 .f32) : IVec S16x1 32 := k2_pay8 (cCount x) (cKey x) (k2_pay6 x)
def cB (x : Vec F S16x20000 .f32) : IVec S16x1 32 := k2_pay9 (cCount x) (cKey x) (cA x) (cA' x) 2147483648#32
def cB' (x : Vec F S16x20000 .f32) : IVec S16x1 32 := k2_pay10 (cCount x) (cKey x) (cA x) (cA' x) 2147483648#32
def cB'' (x : Vec F S16x20000 .f32) : IVec S16x20000 1 := k2_pay11 (cCount x) (cKey x) (cA x) (cA' x) 2147483648#32
def cC (x : Vec F S16x20000 .f32) : IVec S16x1 32 := k2_pay12 (cCount x) (cKey x) (cB x) (cB' x) (cB'' x)
def cC' (x : Vec F S16x20000 .f32) : IVec S16x1 32 := k2_pay13 (cCount x) (cKey x) (cB x) (cB' x) (cB'' x)
def cC'' (x : Vec F S16x20000 .f32) : IVec S16x1 32 := k2_pay14 (cCount x) (cKey x) (cB x) (cB' x) (cB'' x)
def cD (x : Vec F S16x20000 .f32) : IVec S16x1 32 := k2_pay15 (cCount x) (cKey x) (cC x) (cC' x) (cC'' x)
def cE (x : Vec F S16x20000 .f32) : IVec S16x1 32 := k2_pay17 (cCount x) (cKey x) (cD x) k2_pay16
def cE' (x : Vec F S16x20000 .f32) : IVec S16x1 32 := k2_pay18 (cCount x) (cKey x) (cD x) k2_pay16
def cE'' (x : Vec F S16x20000 .f32) : IVec S16x1 32 := k2_pay19 (cCount x) (cKey x) (cD x) k2_pay16
def cG (x : Vec F S16x20000 .f32) : IVec S16x1 32 := k2_pay20 (cCount x) (cKey x) (cE x) (cE' x) (cE'' x)
def cG' (x : Vec F S16x20000 .f32) : IVec S16x1 32 := k2_pay21 (cCount x) (cKey x) (cE x) (cE' x) (cE'' x)
def cG'' (x : Vec F S16x20000 .f32) : IVec S16x20000 32 := k2_pay22 (cCount x) (cKey x) (cE x) (cE' x) (cE'' x)
def cH (x : Vec F S16x20000 .f32) : IVec S16x1 32 := k2_pay23 (cCount x) (cKey x) (cG x) (cG' x) (cG'' x)

/-- The first result: the sum of the selected losses. -/
def outC1 (x : Vec F S16x20000 .f32) : Vec F S1x1 .f32 := k2_pay24 (k2_pay1 x) (cCount x) (k2_pay4 x) (cH x)
/-- The second result: the number of foreground anchors. -/
def outC2 (x : Vec F S16x20000 .f32) : Vec F S1x1 .i32 := k2_pay25 (k2_pay2 x)

set_option maxHeartbeats 1600000 in
/-- The body on whole buffers: the input is left as it was and the two results hold `outC1` and `outC2` of it. -/
theorem passC_triple (c : Dev nD) (E : Set ℕ) (i : grid2.Coords) (arg1 : Memref sig .tc .vmem S16x20000 .f32) (harg1 : arg1.IsWhole)
    (arg2 : Memref sig .tc .vmem S1x1 .f32) (harg2 : arg2.IsWhole) (arg3 : Memref sig .tc .vmem S1x1 .i32) (harg3 : arg3.IsWhole)
    (x0 : Vec F S16x20000 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (outC1 x0) ∗ owns (c : Thread nD τ) arg3 fullShare (outC2 x0)) -∗ K ⟨⟩))
      ⊢ wp frame (wpE (defs₀ (F := F)) Variants.none c none) E (cc2__passC_body i arg1 harg1 arg2 harg2 arg3 harg3) K := by
  simp only [cc2__passC_body_eq_skeleton]; unfold cc2__passC_body_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton]
  unfold owns
  iintro ⟨⟨%f0, %hf0, H0⟩, ⟨%d1, %f1, -, H1⟩, ⟨%d2, %f2, -, H2⟩, Hk⟩
  sl_exec
  sl_step
  iapply Hk
  isplitl [H0]
  · iexists f0; isplitr; · ipureintro; exact hf0
    iexact H0
  isplitl [H1]
  · iexists _; isplitr
    swap; · iexact H1
    ipureintro
    rw [show outC1 x0 = outC1 (arg1.view.readAt (Elt F) (Rect.unit (s := S16x20000) ![0, 0] S16x20000.size inb_S16x20000_S16x20000_0_0).toLoadRect f0) from
      congrArg outC1 (hf0.symm.trans (View.readAt_full _ _ _).symm)]
    exact View.read_writes_full _ _ _ _ _
  iexists _; isplitr
  swap; · iexact H2
  ipureintro
  rw [show outC2 x0 = outC2 (arg1.view.readAt (Elt F) (Rect.unit (s := S16x20000) ![0, 0] S16x20000.size inb_S16x20000_S16x20000_0_0).toLoadRect f0) from
    congrArg outC2 (hf0.symm.trans (View.readAt_full _ _ _).symm)]
  exact View.read_writes_full _ _ _ _ _

/-! ## The proof data -/

-- the buffers' contents when the call is entered
variable (V : (c : Dev nD) → (b : Ref sig .tc) → Buf (Elt F) ((c : Thread nD τ).loc b))

/-- Window `w`'s block at point `t`, read off its array as the call finds it. -/
def blkC (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The arrays as found; after the body the input's buffer at its block, the results' at `outC1`, `outC2` of it. -/
def datC (c : Dev nD) : Dat τ (Elt F) Unit ℕ (UR sig nD τ) ℕ cfg2 c where
  A w := V c (Pipeline.arrRef spec2 w)
  after w t := match w with
    | ⟨0, _⟩ => blkC V c 0 t
    | ⟨1, _⟩ => outC1 (blkC V c 0 t)
    | ⟨2, _⟩ => outC2 (blkC V c 0 t)
  Φ _ := Pipeline.ΦA spec2 c
  q _ := fullShare
  owed _ := 0

theorem datC_A (c : Dev nD) (w : Fin cfg2.W) : (datC V c).A w = V c (Pipeline.arrRef spec2 w) := by dsimp only [datC]
theorem afterC0 (c : Dev nD) (t : Fin cfg2.N) : (datC V c).after 0 t = blkC V c 0 t := by dsimp only [datC]
theorem afterC1 (c : Dev nD) (t : Fin cfg2.N) : (datC V c).after 1 t = outC1 (blkC V c 0 t) := by dsimp only [datC]
theorem afterC2 (c : Dev nD) (t : Fin cfg2.N) : (datC V c).after 2 t = outC2 (blkC V c 0 t) := by dsimp only [datC]

/-- The input's buffer holds its block when the body runs. -/
theorem beforeC0 (c : Dev nD) (t : Fin cfg2.N) (d) : (datC V c).before 0 t d = blkC V c 0 t :=
  ((datC V c).before_in_eq_fetched 0 rfl (fun _ => rfl) (fun _ _ _ => rfl)
    (fun t => by rw [afterC0]; unfold Dat.blockOf blkC; rw [datC_A]) t d).trans
    (by unfold Dat.fetched Dat.blockOf blkC; rw [datC_A]; try rfl)

/-- The body at a point, from what its windows hold before it to what they hold after. -/
theorem passC_at (c : Dev nD) (t : Fin cfg2.N) :
    iprop((datC V c).Φ t.castSucc ∗ (datC V c).owesAt () t.castSucc
      ∗ (∃ d, owns (c : Thread nD τ) (st2_0 t) fullShare ((datC V c).before 0 t d))
      ∗ (∃ d, owns (c : Thread nD τ) (st2_1 t) fullShare ((datC V c).before 1 t d))
      ∗ (∃ d, owns (c : Thread nD τ) (st2_2 t) fullShare ((datC V c).before 2 t d)))
    ⊢ wp frame (wpE (defs₀ (F := F)) Variants.none c none) Set.univ (bodyAt2 t) (fun _ =>
      iprop((datC V c).Φ t.succ ∗ (datC V c).owesAt () t.succ
        ∗ owns (c : Thread nD τ) (st2_0 t) fullShare ((datC V c).after 0 t)
        ∗ owns (c : Thread nD τ) (st2_1 t) fullShare ((datC V c).after 1 t)
        ∗ owns (c : Thread nD τ) (st2_2 t) fullShare ((datC V c).after 2 t))) := by
  unfold bodyAt2
  simp only [beforeC0]
  rw [show (datC V c).Φ t.succ = (datC V c).Φ t.castSucc from rfl,
    show (datC V c).owesAt () t.succ = (datC V c).owesAt () t.castSucc from rfl,
    afterC0, afterC1, afterC2]
  iintro ⟨HΦ, Ho, ⟨%d0, H0⟩, ⟨%d1, H1⟩, ⟨%d2, H2⟩⟩
  iapply (passC_triple c Set.univ (grid2.coords t) _ _ _ _ _ _ (blkC V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defsC (t : Fin cfg2.N) :
    defs₀ (F := F) .tc cfg2.body (cfg2.bodyArgs t (cfg2.slots t)) = bodyAt2 t := by
  unfold defs₀; rw [Defs.onTc_tc]

/-- The pipeline's obligation on the body, at every point. -/
theorem obligationC (c : Dev nD) : BodyObligation (datC (F := F) V c) (defs₀ (F := F)) Variants.none () Set.univ := fun t => by
  rw [bigSep_W2, bigSep_W2, defsC]
  exact triple_restated (passC_at V c t) rfl .rfl fun _ => .rfl

end Cert.KernelIdeal.Ssd
-- ==== Proof.Run.lean ====
module

public import proofs.«01_k».proof.Proof.Gen.KernelIdeal.Regions
public import proofs.«01_k».proof.Proof.PassA
public import proofs.«01_k».proof.Proof.PassB
public import proofs.«01_k».proof.Proof.PassC
public import Idealize.ShloMosaic.Lib.Pipeline.RegionsLoop
public import Idealize.ShloMosaic.Lib.Pipeline.FrameSuffix
public import Idealize.ShloMosaic.Lib.Ring

/-! # The run of the whole program

The buffers' contents at each boundary between the host operations and the three calls (`W0` to `W7`), and the launch:
every execution ends with the unscoped buffers at `W7` and with every counter at zero. -/

@[expose] public section

set_option maxRecDepth 16384

noncomputable section

namespace Cert.KernelIdeal.Ssd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the boundaries -/

/-- The buffers at the launch. -/
abbrev W0 : Dev nD → Valuation τ sig (Elt F) := fun c b => (s₀ m ρ).mem ((c : Dev nD), b)

/-- After the host operations before call 0. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The same at the core's own references. -/
abbrev U1 : (c : Dev nD) → (b : Ref sig .tc) → Buf (Elt F) ((c : Thread nD τ).loc b) := fun c b => W1 m ρ c b
/-- After call 0: its arrays at what the pipeline leaves, every other buffer as before. -/
def W2 (c : Dev nD) : Valuation τ sig (Elt F) :=
  Pipeline.withArrays spec0 c (W1 m ρ c) fun w => (datA (U1 m ρ) c).arrAt w cfg0.N
theorem W2_arr (c : Dev nD) (w : Fin cfg0.W) :
    W2 m ρ c (Proc.devRef .tc (Pipeline.arrRef spec0 w)) = (datA (U1 m ρ) c).arrAt w cfg0.N := by
  unfold W2; exact Pipeline.withArrays_arr spec0 launch0.win.arr_inj c _ _ w
theorem W2_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((datA (U1 m ρ) c).arrAt_in w (h w rfl) _).trans (datA_A (U1 m ρ) c w))
  · exact W2_ne m ρ c r fun w e => hw ⟨w, e⟩
abbrev U2 : (c : Dev nD) → (b : Ref sig .tc) → Buf (Elt F) ((c : Thread nD τ).loc b) := fun c b => W2 m ρ c b

/-- After the host operations before call 1. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The same at the core's own references. -/
abbrev U3 : (c : Dev nD) → (b : Ref sig .tc) → Buf (Elt F) ((c : Thread nD τ).loc b) := fun c b => W3 m ρ c b
/-- After call 1: its arrays at what the pipeline leaves, every other buffer as before. -/
def W4 (c : Dev nD) : Valuation τ sig (Elt F) :=
  Pipeline.withArrays spec1 c (W3 m ρ c) fun w => (datB (U3 m ρ) c).arrAt w cfg1.N
theorem W4_arr (c : Dev nD) (w : Fin cfg1.W) :
    W4 m ρ c (Proc.devRef .tc (Pipeline.arrRef spec1 w)) = (datB (U3 m ρ) c).arrAt w cfg1.N := by
  unfold W4; exact Pipeline.withArrays_arr spec1 launch1.win.arr_inj c _ _ w
theorem W4_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((datB (U3 m ρ) c).arrAt_in w (h w rfl) _).trans (datB_A (U3 m ρ) c w))
  · exact W4_ne m ρ c r fun w e => hw ⟨w, e⟩
abbrev U4 : (c : Dev nD) → (b : Ref sig .tc) → Buf (Elt F) ((c : Thread nD τ).loc b) := fun c b => W4 m ρ c b

/-- After the host operations before call 2. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- The same at the core's own references. -/
abbrev U5 : (c : Dev nD) → (b : Ref sig .tc) → Buf (Elt F) ((c : Thread nD τ).loc b) := fun c b => W5 m ρ c b
/-- After call 2: its arrays at what the pipeline leaves, every other buffer as before. -/
def W6 (c : Dev nD) : Valuation τ sig (Elt F) :=
  Pipeline.withArrays spec2 c (W5 m ρ c) fun w => (datC (U5 m ρ) c).arrAt w cfg2.N
theorem W6_arr (c : Dev nD) (w : Fin cfg2.W) :
    W6 m ρ c (Proc.devRef .tc (Pipeline.arrRef spec2 w)) = (datC (U5 m ρ) c).arrAt w cfg2.N := by
  unfold W6; exact Pipeline.withArrays_arr spec2 launch2.win.arr_inj c _ _ w
theorem W6_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((datC (U5 m ρ) c).arrAt_in w (h w rfl) _).trans (datC_A (U5 m ρ) c w))
  · exact W6_ne m ρ c r fun w e => hw ⟨w, e⟩
abbrev U6 : (c : Dev nD) → (b : Ref sig .tc) → Buf (Elt F) ((c : Thread nD τ).loc b) := fun c b => W6 m ρ c b

/-- After the last host operations. -/
abbrev W7 : Dev nD → Valuation τ sig (Elt F) := fun c => StableHlo.after hostOps3 (W6 m ρ c)
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- The arguments of the program. -/
abbrev argRefs : List (Ref sig .tc) := [main_arg0, main_arg1, main_arg2, main_arg3, main_arg4, main_arg5]

/-- No host operation writes an argument, and no call has one among its results. -/
theorem args_kept : ∀ a ∈ argRefs, (a ∉ hostOps0_W ∧ a ∉ hostOps1_W ∧ a ∉ hostOps2_W ∧ a ∉ hostOps3_W)
    ∧ (∀ w : Fin cfg0.W, Pipeline.arrRef spec0 w = a → (cfg0.win w).isOut = false)
    ∧ (∀ w : Fin cfg1.W, Pipeline.arrRef spec1 w = a → (cfg1.win w).isOut = false)
    ∧ (∀ w : Fin cfg2.W, Pipeline.arrRef spec2 w = a → (cfg2.win w).isOut = false) :=
  ListAll.forall_mem_of_all_decide (by decide +kernel)

/-- An argument ends as it was launched. -/
theorem W7_args (c : Dev nD) (a : Ref sig .tc) (ha : a ∈ argRefs) : W7 m ρ c (Proc.devRef .tc a) = m ((c : Thread nD τ).loc a) := by
  obtain ⟨⟨h0, h1, h2, h3⟩, g0, g1, g2⟩ := args_kept a ha
  exact (W7_of m ρ c a h3).trans ((W6_of m ρ c a g2).trans ((W5_of m ρ c a h2).trans ((W4_of m ρ c a g1).trans
    ((W3_of m ρ c a h1).trans ((W2_of m ρ c a g0).trans (W1_of m ρ c a h0))))))

/-! ## The segments -/

/-- The calls' proof data, each at the contents that the call is entered with. -/
def pdats : (p : Fin 3) → (c : Dev nD) → Dat τ (Elt F) Unit ℕ (UR sig nD τ) ℕ (Pipeline.pin (pcfgs (F := F)) adm p) c
  | ⟨0, _⟩ => fun c => datA (U1 m ρ) c
  | ⟨1, _⟩ => fun c => datB (U3 m ρ) c
  | ⟨2, _⟩ => fun c => datC (U5 m ρ) c
abbrev 𝒱₀ : Variants := Variants.none
abbrev L : GSem nD τ sig → Finset Unit := fun _ => ∅
abbrev lv : GSem nD τ sig → Unit → ℕ := fun _ _ => 0
/-- What goes along beside the buffers: the generator register, and that nothing is owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the end, apart from what is owed. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- Call 0 as a segment: from the buffers at `W1` to the buffers at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligationA (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) (datA_A (U1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (fun w => (W2_arr m ρ c w).symm)
      (fun b hb => W2_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: from the buffers at `W3` to the buffers at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligationB (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) (datB_A (U3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phiB_in (U3 m ρ) c)
    unfold Pipeline.ΦA
    iintro ⟨Hp, -, Hr⟩
    isplitl [Hr]; · iexact Hr
    iexact Hp
  hout c := by
    rw [Pipeline.ownSems0_none]
    refine BIBase.Entails.trans (phiB_out (U3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (fun w => (W4_arr m ρ c w).symm)
      (fun b hb => W4_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: from the buffers at `W5` to the buffers at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligationC (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) (datC_A (U5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (fun w => (W6_arr m ρ c w).symm)
      (fun b hb => W6_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program as its segments in order. -/
abbrev parts : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_parts (c : Dev nD) : main (F := F) c = Pipeline.Seg.run (parts m ρ) := (main_chain c).trans (by chain_rfl)

set_option backward.isDefEq.respectTransparency.types false in
/-- Every execution from `m` with zero counters ends, without fault, with every unscoped buffer at `W7` and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (parts m ρ)
    (fun c Q => by rw [main_parts m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (regions_no_unscoped g.2))⟩)

/-- What `run_all` says of the two results and of the arguments. -/
theorem run_values : θ_run defs (onTc (τ := τ) (main (F := F))) ⟨m, fun _ => 0, ρ⟩ (fun r => (∀ c : Dev nD,
      r.2.mem ((c.tc : Thread nD τ).loc main_v17) = W7 m ρ c main_v17
      ∧ r.2.mem ((c.tc : Thread nD τ).loc main_v21) = W7 m ρ c main_v21
      ∧ ∀ a ∈ argRefs, r.2.mem ((c.tc : Thread nD τ).loc a) = m ((c.tc : Thread nD τ).loc a)) ∧ r.2.sem = fun _ => 0) :=
  (θ_run defs _ _).mono (fun r h => ⟨fun c =>
    ⟨h.1 c _ (mem_uc main_v17 (by decide)), h.1 c _ (mem_uc main_v21 (by decide)), fun a ha =>
      (h.1 c _ (mem_uc a (by
        have : ∀ a ∈ argRefs, ¬ (Proc.devRef .tc a : DevRef τ sig).isScoped := by decide
        exact this a ha))).trans (W7_args m ρ c a ha)⟩, h.2⟩) (run_all m ρ)

/-- The frame: the arguments end unchanged and every counter at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => by
    have g := (h.1 c).2.2
    exact ⟨g _ (by decide), g _ (by decide), g _ (by decide), g _ (by decide), g _ (by decide), g _ (by decide)⟩, h.2⟩) (run_values m ρ)

end Cert.KernelIdeal.Ssd
-- ==== Proof.FrameBits.lean ====
/- The kernel as printed and the idealized kernel are one program: the two files print the same operations, so the frame
   proved once for every kind of float values holds of the printed program over the machine's words. -/
module

public import proofs.«01_k».proof.Proof.Run
public import proofs.«01_k».proof.Proof.Gen.Kernel
public import Idealize.ShloMosaic.Lib.Tactic

@[expose] public section

set_option maxRecDepth 100000

noncomputable section

namespace Cert.Kernel.Ssd

open Idealize.ShloMosaic Idealize.SL.Sem

variable {F : FTy → Type} [FloatOps F] [h1 : Cert.Kernel.Facts] [h2 : Cert.KernelIdeal.Facts]

/-- The two programs' bodies are the same. -/
theorem main_same : Cert.Kernel.main (F := F) = Cert.KernelIdeal.main (F := F) := by sl_kernel_rfl

/-- The two programs' kernels are the same. -/
theorem defs_same : Cert.Kernel.defs (F := F) = Cert.KernelIdeal.defs (F := F) := by sl_kernel_rfl

/-- The frame of the printed kernel: the arguments end unchanged and every counter at zero. -/
theorem frame_args (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0) := by
  rw [main_same, defs_same]
  exact Cert.KernelIdeal.Ssd.frame_args m g

end Cert.Kernel.Ssd
-- ==== Proof.Spec.lean ====
module

public import Idealize.ShloMosaic.Lib.Pipeline.ValueKit
public import Idealize.ShloMosaic.Lib.Pointwise

/-! # The two losses as plain functions of the arguments, over the extended reals

`gt` and `lab` are the ground-truth boxes and labels of an image, `bp` and `lg` the regression and the class logits of its
anchors, `an` the anchors, `mi` the index of the box an anchor is matched with (negative for a background anchor). -/

@[expose] public section

noncomputable section

namespace Cert.Ssd

open Idealize.ShloMosaic

/-- The words of the constants 0.5, 10 and 5. -/
abbrev half : EReal := Ideal.ofBits FTy.f32 0x3F000000#32
abbrev ten : EReal := Ideal.ofBits FTy.f32 0x41200000#32
abbrev five : EReal := Ideal.ofBits FTy.f32 0x40A00000#32

/-- The absolute value. -/
abbrev mag (x : EReal) : EReal := FloatOps.absf (F := Ideal) (φ := .f32) x

/-- The number that an integer word stands for. -/
abbrev num (w : BitVec 32) : EReal := FloatOps.sitofp (F := Ideal) .f32 w

/-- The box that a match index selects (a background anchor: the first). -/
def boxOf (w : BitVec 32) : Fin 100 := ⟨min w.toInt.toNat 99, by omega⟩

/-- Whether a match index is a foreground anchor's. -/
abbrev fgBit (w : BitVec 32) : BitVec 1 := IntOp.cmpi .sge w 0#32

/-- The class of an anchor: the label of its box, or 0 for the background. -/
def clsOf (lab : Fin 100 → BitVec 32) (w : BitVec 32) : BitVec 32 := Scalar.select (fgBit w) (lab (boxOf w)) 0#32

/-- The smooth L1 function. -/
def sl1 (d : EReal) : EReal := if mag d < 1 then half * d * d else mag d - half

/-- A centre coordinate's regression error: the regression `r`, less the encoded offset of the box's centre from the anchor's. -/
def errCentre (r g0 g2 a0 a2 : EReal) : EReal :=
  r - Ideal.div (ten * (g0 + half * (g2 - g0) - (a0 + half * (a2 - a0)))) (a2 - a0)

/-- A size's regression error. -/
def errSize (r g0 g2 a0 a2 : EReal) : EReal := r - five * Ideal.log (Ideal.div (g2 - g0) (a2 - a0))

/-- The four regression errors of an anchor. -/
def err (g a r : Fin 4 → EReal) : Fin 4 → EReal :=
  ![errCentre (r 0) (g 0) (g 2) (a 0) (a 2), errCentre (r 1) (g 1) (g 3) (a 1) (a 3),
    errSize (r 2) (g 0) (g 2) (a 0) (a 2), errSize (r 3) (g 1) (g 3) (a 1) (a 3)]

/-- The box loss of one anchor. -/
def boxLoss (g a r : Fin 4 → EReal) (w : BitVec 32) : EReal := (∑ c : Fin 4, sl1 (err g a r c)) * num ((fgBit w).setWidth 32)

/-- The cross entropy of a row of logits at a class. -/
def crossEnt (x : Fin 81 → EReal) (t : Fin 81) : EReal := Ideal.log (∑ c, Ideal.exp (x c)) - x t

/-- The word of minus infinity. -/
theorem ofBits_ninf : Ideal.ofBits FTy.f32 4286578688#32 = (⊥ : EReal) := by
  simp [Ideal.ofBits, Ideal.ieee]

/-! ## Words -/

theorem bit_cases (b : BitVec 1) : b = 0#1 ∨ b = 1#1 := by
  rcases (by decide +revert : b = 0#1 ∨ b = 1#1) with h | h
  · exact Or.inl h
  · exact Or.inr h

theorem ofBool_eq_one (p : Bool) : BitVec.ofBool p = 1#1 ↔ p = true := by cases p <;> decide

theorem num_eq (w : BitVec 32) : num w = ((w.toInt : ℝ) : EReal) := rfl

/-- A small number's word, read signed. -/
theorem toInt_small (n : ℕ) (h : n < 2 ^ 31) : (BitVec.ofNat 32 n).toInt = n := by
  rw [BitVec.toInt_ofNat', Int.bmod_def]
  omega

/-- A bit as a number. -/
theorem num_bit (p : Bool) : num ((BitVec.ofBool p).setWidth 32) = if p then 1 else 0 := by
  rw [num_eq]
  cases p <;> simp

theorem num_fg (w : BitVec 32) : num ((fgBit w).setWidth 32) = if 0 ≤ w.toInt then 1 else 0 := by
  unfold fgBit IntOp.cmpi
  rw [num_bit]
  simp [BitVec.sle]

theorem fgBit_eq_one (w : BitVec 32) : fgBit w = 1#1 ↔ 0 ≤ w.toInt := by
  unfold fgBit IntOp.cmpi
  rw [ofBool_eq_one]
  simp [BitVec.sle]

/-- The kernel's one-hot test of a box index. -/
theorem hot_iff (k : Fin 100) (w : BitVec 32) (hw : w.toInt < 100) :
    (BitVec.ofNat 32 k.val == IntOp.maxsi w 0#32) = decide (k = boxOf w) := by
  have hk := k.isLt
  have e : (BitVec.ofNat 32 k.val).toInt = k.val := toInt_small _ (by omega)
  rw [Bool.eq_iff_iff, beq_iff_eq, decide_eq_true_iff, ← BitVec.toInt_inj, e]
  unfold IntOp.maxsi boxOf
  rw [Fin.ext_iff]
  by_cases h : (0#32).slt w
  · rw [if_pos h]
    simp only [BitVec.slt, decide_eq_true_eq] at h
    have : (0#32 : BitVec 32).toInt = 0 := by decide
    show _ ↔ k.val = min w.toInt.toNat 99
    omega
  · rw [if_neg h]
    simp only [BitVec.slt, decide_eq_true_eq] at h
    have : (0#32 : BitVec 32).toInt = 0 := by decide
    show _ ↔ k.val = min w.toInt.toNat 99
    omega

/-- A one-hot product takes out the entry of the box. -/
theorem hot_sum (f : Fin 100 → EReal) (w : BitVec 32) (hw : w.toInt < 100) :
    ∑ k : Fin 100, f k * num ((IntOp.cmpi .eq (BitVec.ofNat 32 k.val) (IntOp.maxsi w 0#32)).setWidth 32) = f (boxOf w) := by
  rw [Finset.sum_eq_single (boxOf w)]
  · unfold IntOp.cmpi
    rw [num_bit, hot_iff _ _ hw]
    simp
  · intro k _ hk
    unfold IntOp.cmpi
    rw [num_bit, hot_iff _ _ hw]
    simp [hk]
  · intro h; exact absurd (Finset.mem_univ _) h

/-! ## Indices with axes of one element -/

theorem fin_one (x : Fin 1) : x = 0 := Subsingleton.elim _ _

theorem idx_11n {n : ℕ} (y : (⟨3, ![1, 1, n]⟩ : Shape).Idx) : ∃ a : Fin n, y = ix3 0 0 a :=
  ⟨y 2, funext fun d => match d with
    | ⟨0, _⟩ => fin_one _
    | ⟨1, _⟩ => fin_one _
    | ⟨2, _⟩ => rfl⟩

theorem idx_1mn {m n : ℕ} (y : (⟨3, ![1, m, n]⟩ : Shape).Idx) : ∃ (r : Fin m) (a : Fin n), y = ix3 0 r a :=
  ⟨y 1, y 2, funext fun d => match d with
    | ⟨0, _⟩ => fin_one _
    | ⟨1, _⟩ => rfl
    | ⟨2, _⟩ => rfl⟩

theorem idx_11 (y : (⟨2, ![1, 1]⟩ : Shape).Idx) : y = ix2 0 0 :=
  funext fun d => match d with
    | ⟨0, _⟩ => fin_one _
    | ⟨1, _⟩ => fin_one _

end Cert.Ssd

end
-- ==== Proof.ValA.lean ====
module

public import proofs.«01_k».proof.Proof.PassA
public import proofs.«01_k».proof.Proof.Spec

/-! # What the first call's body computes for one image, over the extended reals -/

@[expose] public section

set_option maxRecDepth 16384

noncomputable section

namespace Cert.KernelIdeal.Ssd

open Cert.KernelIdeal Cert.KernelIdeal.Gen Cert.Ssd
open Idealize.ShloMosaic

variable (x0 x1 : Vec Ideal S1x4x20000 .f32) (x2 : Vec Ideal S1x1x20000 .i32) (x3 : Vec Ideal S1x5x100 .f32)

/-- The one-hot product is the matched box's column. -/
theorem pay5_at (c : Fin 5) (a : Fin 20000) (h : (x2 (ix3 0 0 a)).toInt < 100) :
    k0_pay5 x2 x3 (ix2 c a) = x3 (ix3 0 c (boxOf (x2 (ix3 0 0 a)))) := by
  pointwise [k0_pay5, k0_pay3]
  exact hot_sum (fun k => x3 (ix3 0 c k)) _ h

/-- The class target of an anchor. -/
theorem outA4_at (a : Fin 20000) (h : (x2 (ix3 0 0 a)).toInt < 100) :
    outA4 x2 x3 (ix3 0 0 a) = Scalar.select (fgBit (x2 (ix3 0 0 a))) (x3 (ix3 0 4 (boxOf (x2 (ix3 0 0 a))))) 0 := by
  pointwise [outA4, k0_pay22, k0_pay4, k0_pay3]
  rw [pay5_at x2 x3 4 a h]

set_option maxHeartbeats 1000000 in
/-- The running box loss after an image. -/
theorem outA5_at (acc : Vec Ideal S1x1 .f32) (h : ∀ a : Fin 20000, (x2 (ix3 0 0 a)).toInt < 100) :
    outA5 x0 x1 x2 x3 acc (ix2 0 0) = acc (ix2 0 0) + ∑ a : Fin 20000,
      boxLoss (fun c => x3 (ix3 0 c.castSucc (boxOf (x2 (ix3 0 0 a))))) (fun c => x1 (ix3 0 c a)) (fun c => x0 (ix3 0 c a)) (x2 (ix3 0 0 a)) := by
  pointwise [outA5, k0_pay24, k0_pay6, k0_pay4, k0_pay3, k0_pay1, k0_pay2, k0_pay7, k0_pay8, k0_pay9, k0_pay10, k0_pay11, k0_pay12, k0_pay13, k0_pay14, k0_pay15, k0_pay16, k0_pay17, k0_pay18, k0_pay19, k0_pay20, k0_pay21]
  refine congrArg (acc (ix2 0 0) + ·) ((Fin.sum_univ_one _).trans (Finset.sum_congr rfl fun a _ => ?_))
  rw [pay5_at x2 x3 0 a (h a), pay5_at x2 x3 1 a (h a), pay5_at x2 x3 2 a (h a), pay5_at x2 x3 3 a (h a)]
  unfold boxLoss
  refine congrArg (· * _) ?_
  rw [Fin.sum_univ_four]
  rfl

end Cert.KernelIdeal.Ssd

end
-- ==== Proof.ArrA.lean ====
module

public import proofs.«01_k».proof.Proof.ValA

/-! # What the first call leaves in its two results, over the extended reals -/

@[expose] public section

set_option maxRecDepth 16384

noncomputable section

namespace Cert.KernelIdeal.Ssd

open Cert.KernelIdeal Cert.KernelIdeal.Gen Cert.Ssd
open Idealize.ShloMosaic Idealize.ShloMosaic.TcCoe

variable (V : (c : Dev nD) → (b : Ref sig .tc) → Buf (Elt Ideal) ((c : Thread nD τ).loc b))

/-- The image of a point of the first call's grid. -/
def imgA (t : Fin cfg0.N) : Fin 16 := ⟨t.val, Nat.lt_of_lt_of_eq t.isLt N_0⟩

theorem idxA0 : ∀ t : Fin cfg0.N, win0_0.index t = ![t.val, 0, 0] := (by decide +kernel : ∀ t : Fin grid0.N, win0_0.index t = ![t.val, 0, 0])
theorem idxA1 : ∀ t : Fin cfg0.N, win0_1.index t = ![t.val, 0, 0] := (by decide +kernel : ∀ t : Fin grid0.N, win0_1.index t = ![t.val, 0, 0])
theorem idxA2 : ∀ t : Fin cfg0.N, win0_2.index t = ![t.val, 0, 0] := (by decide +kernel : ∀ t : Fin grid0.N, win0_2.index t = ![t.val, 0, 0])
theorem idxA3 : ∀ t : Fin cfg0.N, win0_3.index t = ![t.val, 0, 0] := (by decide +kernel : ∀ t : Fin grid0.N, win0_3.index t = ![t.val, 0, 0])
theorem idxA4 : ∀ t : Fin cfg0.N, win0_4.index t = ![t.val, 0, 0] := (by decide +kernel : ∀ t : Fin grid0.N, win0_4.index t = ![t.val, 0, 0])

theorem blkA0_at (c : Dev nD) (t : Fin cfg0.N) (k : Fin 4) (a : Fin 20000) :
    blkA V c 0 t (ix3 0 k a) = V c main_v0 (ix3 (imgA t) k a) := by
  blk_ext [blkA, idxA0 t, imgA]
theorem blkA1_at (c : Dev nD) (t : Fin cfg0.N) (k : Fin 4) (a : Fin 20000) :
    blkA V c 1 t (ix3 0 k a) = V c main_v1 (ix3 (imgA t) k a) := by
  blk_ext [blkA, idxA1 t, imgA]
theorem blkA2_at (c : Dev nD) (t : Fin cfg0.N) (a : Fin 20000) :
    blkA V c 2 t (ix3 0 0 a) = V c main_v2 (ix3 (imgA t) 0 a) := by
  blk_ext [blkA, idxA2 t, imgA]
theorem blkA3_at (c : Dev nD) (t : Fin cfg0.N) (k : Fin 5) (g : Fin 100) :
    blkA V c 3 t (ix3 0 k g) = V c main_v6 (ix3 (imgA t) k g) := by
  blk_ext [blkA, idxA3 t, imgA]

/-- The class targets after the first call. -/
theorem arrA4 (c : Dev nD) (h : ∀ (b : Fin 16) (a : Fin 20000), (V c main_v2 (ix3 b 0 a) : BitVec 32).toInt < 100) :
    (datA V c).arrAt 4 cfg0.N = fun i : S16x1x20000.Idx => Scalar.select (fgBit (V c main_v2 (ix3 (i 0) 0 (i 2))))
      (V c main_v6 (ix3 (i 0) 4 (boxOf (V c main_v2 (ix3 (i 0) 0 (i 2)))))) (0 : EReal) := by
  refine (datA V c).arrAt_eq_of_covers 4 _ (by decide +kernel) fun t hf y => ?_
  have hy : ∀ y : S1x1x20000.Idx, outA4 (blkA V c 2 t) (blkA V c 3 t) y = Scalar.select (fgBit (V c main_v2 (ix3 (imgA t) 0 (y 2))))
      (V c main_v6 (ix3 (imgA t) 4 (boxOf (V c main_v2 (ix3 (imgA t) 0 (y 2)))))) (0 : EReal) := fun y => by
    obtain ⟨a, rfl⟩ := idx_11n y
    rw [outA4_at _ _ a (by rw [blkA2_at]; exact h _ _), blkA2_at, blkA3_at]
    rfl
  have e0 : (win0_4.blk t).view.emb y 0 = imgA t := Fin.ext (by blk_simp [idxA4 t, imgA])
  have e2 : (win0_4.blk t).view.emb y 2 = y 2 := Fin.ext (by blk_simp [idxA4 t])
  blk_simp
  rw [afterA4]
  rw [e0, e2]
  exact hy y

/-- The box loss of image `b`, over the contents of the call's four arguments. -/
def lossA (c : Dev nD) (b : Fin 16) : EReal := ∑ a : Fin 20000,
  boxLoss (fun k => V c main_v6 (ix3 b k.castSucc (boxOf (V c main_v2 (ix3 b 0 a))))) (fun k => V c main_v1 (ix3 b k a))
    (fun k => V c main_v0 (ix3 b k a)) (V c main_v2 (ix3 b 0 a))

/-- One image's step of the running loss. -/
theorem stepA (c : Dev nD) (h : ∀ (b : Fin 16) (a : Fin 20000), (V c main_v2 (ix3 b 0 a) : BitVec 32).toInt < 100) (t : Fin cfg0.N)
    (acc : Vec Ideal S1x1 .f32) :
    outA5 (blkA V c 0 t) (blkA V c 1 t) (blkA V c 2 t) (blkA V c 3 t) acc (ix2 0 0) = acc (ix2 0 0) + lossA V c (imgA t) := by
  rw [outA5_at _ _ _ _ _ (fun a => by rw [blkA2_at]; exact h _ _)]
  unfold lossA
  simp only [blkA0_at, blkA1_at, blkA2_at, blkA3_at]

/-- The box loss of image `b`, at any number. -/
def lossN (c : Dev nD) (b : ℕ) : EReal := if hb : b < 16 then lossA V c ⟨b, hb⟩ else 0

/-- The running loss after point `n` is the sum over the images so far. -/
theorem accA_sum (c : Dev nD) (h : ∀ (b : Fin 16) (a : Fin 20000), (V c main_v2 (ix3 b 0 a) : BitVec 32).toInt < 100) (n : ℕ) :
    ∀ hn : n < cfg0.N, accA V c n hn (ix2 0 0) = ∑ b ∈ Finset.range (n + 1), lossN V c b := by
  have h0 : cfg0.N = 16 := N_0
  have e : ∀ (n : ℕ) (hn : n < cfg0.N), lossA V c (imgA ⟨n, hn⟩) = lossN V c n := fun n hn => by
    rw [lossN, dif_pos (show n < 16 by omega)]; rfl
  induction n with
  | zero =>
    intro hn
    have z : (k0_pay23 (F := Ideal)) (ix2 0 0) = (0 : EReal) := by pointwise [k0_pay23]
    rw [accA, stepA V c h, z, zero_add, Finset.sum_range_one]
    exact e 0 hn
  | succ n ih =>
    intro hn
    rw [accA, stepA V c h, ih, Finset.sum_range_succ _ (n + 1), e (n + 1) hn]

/-- The box loss after the first call. -/
theorem arrA5 (c : Dev nD) (h : ∀ (b : Fin 16) (a : Fin 20000), (V c main_v2 (ix3 b 0 a) : BitVec 32).toInt < 100) :
    (datA V c).arrAt 5 cfg0.N = fun _ : S1x1.Idx => ∑ b : Fin 16, lossA V c b := by
  refine (datA V c).arrAt_eq_of_after_last 5 t0_15 (by decide +kernel) _ fun j => ?_
  blk_simp
  rw [afterA5]
  have e := accA_sum V c h 15 (Nat.lt_of_lt_of_eq (by decide) N_0.symm)
  rw [Finset.sum_range (fun b => lossN V c b)] at e
  rw [idx_11 j]
  refine e.trans (Finset.sum_congr rfl fun b _ => ?_)
  rw [lossN, dif_pos b.isLt]

end Cert.KernelIdeal.Ssd

end
-- ==== Proof.ValB.lean ====
module

public import proofs.«01_k».proof.Proof.PassB
public import proofs.«01_k».proof.Proof.Spec
public import Idealize.ShloMosaic.Lib.Routing.Words

/-! # What the second call's body computes for one block of 100 rows of 128 anchors, over the extended reals -/

@[expose] public section

set_option maxRecDepth 16384

noncomputable section

namespace Cert.KernelIdeal.Ssd

open Cert.KernelIdeal Cert.KernelIdeal.Gen Cert.Ssd
open Idealize.ShloMosaic

/-! ## The lanes' words -/

theorem lane_pos (x : ℕ) (hx : x < 2 ^ 31) (h : 0 < x) :
    IntOp.cmpi .sgt (BitVec.ofNat 32 x) 0#32 = 1#1 ∧ IntOp.cmpi .slt (BitVec.ofNat 32 x) 0#32 = 0#1 := by
  have e := toInt_small x hx
  have z : (0#32 : BitVec 32).toInt = 0 := by decide
  unfold IntOp.cmpi
  simp only [BitVec.slt, e, z]
  rw [decide_eq_true (by omega), decide_eq_false (by omega)]
  exact ⟨rfl, rfl⟩

/-- The quotient of a lane by 81, rounded down: no correction of the sign applies. -/
theorem laneGroup (x : ℕ) (hx : x < 2 ^ 31) :
    Scalar.select (IntOp.andi (IntOp.cmpi .ne (IntOp.subi (BitVec.setWidth 32 (IntOp.cmpi .sgt (BitVec.ofNat 32 x) 0#32))
          (BitVec.setWidth 32 (IntOp.cmpi .slt (BitVec.ofNat 32 x) 0#32)))
        (Scalar.subi (Scalar.extui (Scalar.cmpi .sgt 81#32 0#32)) (Scalar.extui (Scalar.cmpi .slt 81#32 0#32))))
        (IntOp.cmpi .ne (IntOp.remsi .vector (BitVec.ofNat 32 x) 81#32) 0#32))
      (IntOp.subi (IntOp.divsi .vector (BitVec.ofNat 32 x) 81#32) 1#32) (IntOp.divsi .vector (BitVec.ofNat 32 x) 81#32)
      = BitVec.ofNat 32 (x / 81) := by
  have d := Routing.divsi_word .vector (a := x) (b := 81) hx (by decide) (by decide)
  have r := Routing.remsi_word .vector (a := x) (b := 81) hx (by decide) (by decide)
  rw [d, r]
  rcases Nat.eq_zero_or_pos x with rfl | h
  · decide
  · obtain ⟨h1, h2⟩ := lane_pos x hx h
    rw [h1, h2]
    have e : IntOp.cmpi .ne (IntOp.subi (BitVec.setWidth 32 (1#1)) (BitVec.setWidth 32 (0#1)))
        (Scalar.subi (Scalar.extui (Scalar.cmpi .sgt 81#32 0#32)) (Scalar.extui (Scalar.cmpi .slt 81#32 0#32))) = 0#1 := by decide
    rw [e]
    rw [show ∀ b : BitVec 1, IntOp.andi 0#1 b = 0#1 from by decide]
    rfl

/-- The remainder of a lane by 81: no correction of the sign applies. -/
theorem laneClass (x : ℕ) (hx : x < 2 ^ 31) :
    Scalar.select (IntOp.andi (IntOp.xori (IntOp.cmpi .slt (IntOp.remsi .vector (BitVec.ofNat 32 x)
            (Scalar.select (Scalar.cmpi .eq 81#32 0#32) 1#32 81#32)) 0#32)
          (Scalar.cmpi .slt (Scalar.select (Scalar.cmpi .eq 81#32 0#32) 1#32 81#32) 0#32))
        (IntOp.cmpi .ne (IntOp.remsi .vector (BitVec.ofNat 32 x) (Scalar.select (Scalar.cmpi .eq 81#32 0#32) 1#32 81#32)) 0#32))
      (IntOp.addi (IntOp.remsi .vector (BitVec.ofNat 32 x) (Scalar.select (Scalar.cmpi .eq 81#32 0#32) 1#32 81#32))
        (Scalar.select (Scalar.cmpi .eq 81#32 0#32) 1#32 81#32))
      (IntOp.remsi .vector (BitVec.ofNat 32 x) (Scalar.select (Scalar.cmpi .eq 81#32 0#32) 1#32 81#32))
      = BitVec.ofNat 32 (x % 81) := by
  have k : Scalar.select (Scalar.cmpi .eq 81#32 0#32) 1#32 81#32 = 81#32 := by decide
  have r := Routing.remsi_word .vector (a := x) (b := 81) hx (by decide) (by decide)
  rw [k, r]
  have h2 : IntOp.cmpi .slt (BitVec.ofNat 32 (x % 81)) 0#32 = 0#1 := by
    have e := toInt_small (x % 81) (by omega)
    have z : (0#32 : BitVec 32).toInt = 0 := by decide
    unfold IntOp.cmpi
    simp only [BitVec.slt, e, z]
    rw [decide_eq_false (by omega)]
    rfl
  rw [h2, show Scalar.cmpi .slt 81#32 0#32 = 0#1 from by decide]
  rw [show ∀ b : BitVec 1, IntOp.andi (IntOp.xori 0#1 0#1) b = 0#1 from by decide]
  rfl

/-- Small numbers' words are equal as real numbers only when the numbers are. -/
theorem num_inj (a b : ℕ) (ha : a < 2 ^ 31) (hb : b < 2 ^ 31) : num (BitVec.ofNat 32 a) = num (BitVec.ofNat 32 b) ↔ a = b := by
  rw [num_eq, num_eq, toInt_small a ha, toInt_small b hb, EReal.coe_eq_coe_iff]
  norm_cast

/-! ## The group matrix -/

/-- The entry of the group matrix at lane `x`, anchor `l`. -/
theorem grp_at (x : Fin 10368) (l : Fin 128) : k1_pay4 (F := Ideal) (ix2 x l) = if x.val / 81 = l.val then (1 : EReal) else 0 := by
  have hx := x.isLt
  have hl := l.isLt
  have d := Routing.divsi_word .vector (a := x.val) (b := 81) (by omega) (by decide) (by decide)
  have r := Routing.remsi_word .vector (a := x.val) (b := 81) (by omega) (by decide) (by decide)
  pointwise [k1_pay4]
  rw [laneGroup _ (by omega)]
  refine (num_bit (BitVec.ofNat 32 (x.val / 81) == BitVec.ofNat 32 l.val)).trans ?_
  simp only [beq_iff_eq]
  refine if_congr ?_ rfl rfl
  rw [← BitVec.toInt_inj, toInt_small _ (by omega), toInt_small _ (by omega)]
  omega

/-- A product with the group matrix adds up an anchor's 81 lanes. -/
theorem grp_sum (f : Fin 10368 → EReal) (l : Fin 128) :
    ∑ x, f x * k1_pay4 (F := Ideal) (ix2 x l) = ∑ c : Fin 81, f ⟨81 * l.val + c.val, by omega⟩ := by
  symm
  refine Finset.sum_of_injOn (fun c : Fin 81 => (⟨81 * l.val + c.val, by omega⟩ : Fin 10368)) ?_ ?_ ?_ ?_
  · intro a _ b _ e
    have e' := Fin.mk.inj_iff.mp e
    exact Fin.ext (by omega)
  · intro c _; exact Finset.mem_univ _
  · intro x _ hx
    rw [grp_at, if_neg, mul_zero]
    intro e
    refine hx ⟨⟨x.val % 81, by omega⟩, Finset.mem_univ _, Fin.ext ?_⟩
    show 81 * l.val + x.val % 81 = x.val
    omega
  · intro c _
    rw [grp_at, if_pos (show (81 * l.val + c.val) / 81 = l.val by omega), mul_one]

/-- A product with the group matrix's transpose spreads an anchor's value over its lanes. -/
theorem grp_spread (g : Fin 128 → EReal) (x : Fin 10368) :
    ∑ l, g l * k1_pay4 (F := Ideal) (ix2 x l) = g ⟨x.val / 81, by omega⟩ := by
  rw [Finset.sum_eq_single (⟨x.val / 81, by omega⟩ : Fin 128)]
  · rw [grp_at, if_pos rfl, mul_one]
  · intro l _ hl
    rw [grp_at, if_neg (fun e => hl (Fin.ext e.symm)), mul_zero]
  · intro h; exact absurd (Finset.mem_univ _) h

variable (x0 : Vec Ideal S1x100x10368 .f32) (x1 : Vec Ideal S1x100x128 .f32)

/-- The cross entropy of an anchor, from its class target. -/
theorem pay7_at (r : Fin 100) (l : Fin 128) (t : Fin 81) (ht : x1 (ix3 0 r l) = num (BitVec.ofNat 32 t.val)) :
    k1_pay7 x0 x1 (k1_pay4 (F := Ideal)) (ix2 r l) = crossEnt (fun c => x0 (ix3 0 r ⟨81 * l.val + c.val, by omega⟩)) t := by
  pointwise [k1_pay7, k1_pay6]
  unfold crossEnt
  refine congrArg₂ (fun a b : EReal => a - b) (congrArg Ideal.log (grp_sum (fun x => Ideal.exp (x0 (ix3 0 r x))) l)) ?_
  refine (grp_sum (fun x => if _ = ∑ l, x1 (ix3 0 r l) * k1_pay4 (F := Ideal) (ix2 x l) then x0 (ix3 0 r x) else 0) l).trans ?_
  have e : ∀ c : Fin 81, (⟨(81 * l.val + c.val) / 81, by omega⟩ : Fin 128) = l := fun c => Fin.ext (by show _ / 81 = _; omega)
  rw [Finset.sum_eq_single t]
  · rw [grp_spread, laneClass _ (by have := t.isLt; have := l.isLt; show 81 * l.val + t.val < _; omega), e, ht, if_pos]
    exact congrArg num (congrArg (BitVec.ofNat 32) (show (81 * l.val + t.val) % 81 = t.val by omega))
  · intro c _ hc
    rw [grp_spread, laneClass _ (by have := c.isLt; have := l.isLt; show 81 * l.val + c.val < _; omega), e, ht, if_neg]
    intro h
    have h' : (81 * l.val + c.val) % 81 = t.val := (num_inj ((81 * l.val + c.val) % 81) t.val (by omega) (by omega)).mp h
    exact hc (Fin.ext (by omega))
  · intro h; exact absurd (Finset.mem_univ _) h

/-- Whether a class target is a foreground one. -/
theorem pos_num (t : ℕ) (ht : t < 2 ^ 31) : (0 < num (BitVec.ofNat 32 t)) ↔ 0 < t := by
  rw [num_eq, toInt_small t ht]
  norm_cast

/-- The masked loss of an anchor. -/
theorem outB2_at (r : Fin 100) (l : Fin 128) (t : Fin 81) (ht : x1 (ix3 0 r l) = num (BitVec.ofNat 32 t.val)) :
    outB2 x0 x1 (k1_pay4 (F := Ideal)) (ix3 0 r l)
      = if 0 < t.val then (⊥ : EReal) else crossEnt (fun c => x0 (ix3 0 r ⟨81 * l.val + c.val, by omega⟩)) t := by
  rw [← pay7_at x0 x1 r l t ht]
  pointwise [outB2, k1_pay2, k1_pay6, k1_pay8, k1_pay1]
  rw [ht, ofBits_ninf]
  exact if_congr (pos_num _ (by omega)) rfl rfl

/-- The running foreground loss after a block. -/
theorem outB3_at (acc : Vec Ideal S1x1 .f32) (t : Fin 100 → Fin 128 → Fin 81)
    (ht : ∀ r l, x1 (ix3 0 r l) = num (BitVec.ofNat 32 (t r l).val)) :
    outB3 x0 x1 (k1_pay4 (F := Ideal)) acc (ix2 0 0) = acc (ix2 0 0) + ∑ r : Fin 100, ∑ l : Fin 128,
      if 0 < (t r l).val then crossEnt (fun c => x0 (ix3 0 r ⟨81 * l.val + c.val, by omega⟩)) (t r l) else 0 := by
  simp only [← pay7_at x0 x1 _ _ _ (ht _ _)]
  pointwise [outB3, k1_pay3, k1_pay6, k1_pay8, k1_pay1]
  refine congrArg (acc (ix2 0 0) + ·) (Finset.sum_congr rfl fun r _ => Finset.sum_congr rfl fun l _ => ?_)
  rw [ht]
  exact if_congr (pos_num _ (by omega)) rfl rfl

end Cert.KernelIdeal.Ssd

end
-- ==== Proof.ArrB.lean ====
module

public import proofs.«01_k».proof.Proof.ValB

/-! # What the second call leaves in its two results, over the extended reals -/

@[expose] public section

set_option maxRecDepth 16384

noncomputable section

namespace Cert.KernelIdeal.Ssd

open Cert.KernelIdeal Cert.KernelIdeal.Gen Cert.Ssd
open Idealize.ShloMosaic Idealize.ShloMosaic.TcCoe

variable (V : (c : Dev nD) → (b : Ref sig .tc) → Buf (Elt Ideal) ((c : Thread nD τ).loc b))

/-- The block of a point of the second call's grid. -/
def posB (t : Fin cfg1.N) : Fin 25 := ⟨t.val, Nat.lt_of_lt_of_eq t.isLt N_1⟩

theorem idxB0 : ∀ t : Fin cfg1.N, win1_0.index t = ![t.val, 0, 0] := (by decide +kernel : ∀ t : Fin grid1.N, win1_0.index t = ![t.val, 0, 0])
theorem idxB1 : ∀ t : Fin cfg1.N, win1_1.index t = ![t.val, 0, 0] := (by decide +kernel : ∀ t : Fin grid1.N, win1_1.index t = ![t.val, 0, 0])
theorem idxB2 : ∀ t : Fin cfg1.N, win1_2.index t = ![t.val, 0, 0] := (by decide +kernel : ∀ t : Fin grid1.N, win1_2.index t = ![t.val, 0, 0])

theorem blkB0_at (c : Dev nD) (t : Fin cfg1.N) (r : Fin 100) (x : Fin 10368) :
    blkB V c 0 t (ix3 0 r x) = V c main_v8 (ix3 (posB t) r x) := by
  blk_ext [blkB, idxB0 t, posB]
theorem blkB1_at (c : Dev nD) (t : Fin cfg1.N) (r : Fin 100) (l : Fin 128) :
    blkB V c 1 t (ix3 0 r l) = V c main_v9 (ix3 (posB t) r l) := by
  blk_ext [blkB, idxB1 t, posB]

/-- The cross entropy of the anchor in lane group `l` of row `r` of block `b`, at class `t`. -/
def ceB (c : Dev nD) (b : Fin 25) (r : Fin 100) (l : Fin 128) (t : Fin 81) : EReal :=
  crossEnt (fun k => V c main_v8 (ix3 b r ⟨81 * l.val + k.val, by omega⟩)) t

variable (T : Fin 25 → Fin 100 → Fin 128 → Fin 81)

/-- The masked losses after the second call. -/
theorem arrB2 (c : Dev nD) (hT : ∀ b r l, V c main_v9 (ix3 b r l) = num (BitVec.ofNat 32 (T b r l).val)) :
    (datB V c).arrAt 2 cfg1.N = fun i : S25x100x128.Idx =>
      if 0 < (T (i 0) (i 1) (i 2)).val then (⊥ : EReal) else ceB V c (i 0) (i 1) (i 2) (T (i 0) (i 1) (i 2)) := by
  refine (datB V c).arrAt_eq_of_covers 2 _ (by decide +kernel) fun t hf y => ?_
  have hy : ∀ y : S1x100x128.Idx, outB2 (blkB V c 0 t) (blkB V c 1 t) (k1_pay4 (F := Ideal)) y
      = if 0 < (T (posB t) (y 1) (y 2)).val then (⊥ : EReal) else ceB V c (posB t) (y 1) (y 2) (T (posB t) (y 1) (y 2)) := fun y => by
    obtain ⟨r, l, rfl⟩ := idx_1mn y
    rw [outB2_at _ _ r l (T (posB t) r l) (by rw [blkB1_at]; exact hT _ _ _)]
    simp only [blkB0_at]
    rfl
  have e0 : (win1_2.blk t).view.emb y 0 = posB t := Fin.ext (by blk_simp [idxB2 t, posB])
  have e1 : (win1_2.blk t).view.emb y 1 = y 1 := Fin.ext (by blk_simp [idxB2 t])
  have e2 : (win1_2.blk t).view.emb y 2 = y 2 := Fin.ext (by blk_simp [idxB2 t])
  blk_simp
  rw [afterB2]
  rw [e0, e1, e2]
  exact hy y

/-- The foreground loss of block `b`. -/
def lossB (c : Dev nD) (b : Fin 25) : EReal := ∑ r : Fin 100, ∑ l : Fin 128,
  if 0 < (T b r l).val then ceB V c b r l (T b r l) else 0

/-- One block's step of the running loss. -/
theorem stepB (c : Dev nD) (hT : ∀ b r l, V c main_v9 (ix3 b r l) = num (BitVec.ofNat 32 (T b r l).val)) (t : Fin cfg1.N)
    (acc : Vec Ideal S1x1 .f32) :
    outB3 (blkB V c 0 t) (blkB V c 1 t) (k1_pay4 (F := Ideal)) acc (ix2 0 0) = acc (ix2 0 0) + lossB V T c (posB t) := by
  rw [outB3_at _ _ _ (T (posB t)) (fun r l => by rw [blkB1_at]; exact hT _ _ _)]
  unfold lossB ceB
  simp only [blkB0_at]

/-- The foreground loss of block `b`, at any number. -/
def lossBN (c : Dev nD) (b : ℕ) : EReal := if hb : b < 25 then lossB V T c ⟨b, hb⟩ else 0

/-- The running loss after point `n` is the sum over the blocks so far. -/
theorem accB_sum (c : Dev nD) (hT : ∀ b r l, V c main_v9 (ix3 b r l) = num (BitVec.ofNat 32 (T b r l).val)) (n : ℕ) :
    ∀ hn : n < cfg1.N, accB V c n hn (ix2 0 0) = ∑ b ∈ Finset.range (n + 1), lossBN V T c b := by
  have h0 : cfg1.N = 25 := N_1
  have e : ∀ (n : ℕ) (hn : n < cfg1.N), lossB V T c (posB ⟨n, hn⟩) = lossBN V T c n := fun n hn => by
    rw [lossBN, dif_pos (show n < 25 by omega)]; rfl
  induction n with
  | zero =>
    intro hn
    have z : (k1_pay5 (F := Ideal)) (ix2 0 0) = (0 : EReal) := by pointwise [k1_pay5]
    rw [accB, stepB V T c hT, z, zero_add, Finset.sum_range_one]
    exact e 0 hn
  | succ n ih =>
    intro hn
    rw [accB, stepB V T c hT, ih, Finset.sum_range_succ _ (n + 1), e (n + 1) hn]

/-- The last point of the second call's grid. -/
def lastB : Fin grid1.N := ⟨24, by rw [N_1]; decide⟩

/-- The foreground loss after the second call. -/
theorem arrB3 (c : Dev nD) (hT : ∀ b r l, V c main_v9 (ix3 b r l) = num (BitVec.ofNat 32 (T b r l).val)) :
    (datB V c).arrAt 3 cfg1.N = fun _ : S1x1.Idx => ∑ b : Fin 25, lossB V T c b := by
  refine (datB V c).arrAt_eq_of_after_last 3 lastB (by decide +kernel) _ fun j => ?_
  blk_simp
  rw [afterB3]
  have e := accB_sum V T c hT 24 (Nat.lt_of_lt_of_eq (by decide) N_1.symm)
  rw [Finset.sum_range (fun b => lossBN V T c b)] at e
  rw [idx_11 j]
  refine e.trans (Finset.sum_congr rfl fun b _ => ?_)
  rw [lossBN, dif_pos b.isLt]

end Cert.KernelIdeal.Ssd

end
-- ==== Proof.Search.lean ====
module

public import proofs.«01_k».proof.Proof.Spec
public import Idealize.ShloMosaic.Lib.IndicatorCount
public import Idealize.ShloMosaic.Lib.SortNet.Words

/-! # The selection of one row's k largest values: a binary search for the k-th largest rank, and the sum that it gives -/

@[expose] public section

noncomputable section

namespace Cert.Ssd

open Idealize.ShloMosaic

variable {ι : Type} [Fintype ι]

/-! ## The selection, as the third call's body computes it of one row -/

/-- The number of the bits that are set, as a word. -/
abbrev countW (p : ι → BitVec 1) : BitVec 32 := Finset.univ.fold IntOp.addi 0#32 (fun i => (p i).setWidth 32)

/-- The number of smaller values in the row, as a word. -/
abbrev rankW (x : ι → EReal) (i : ι) : BitVec 32 := countW fun j => BitVec.ofBool (decide (x j < x i))

/-- The key of a word: itself when it is not negative. -/
abbrev keyW (r : BitVec 32) : BitVec 32 := Scalar.select (IntOp.cmpi .sge r 0#32) r (IntOp.subi 2147483648#32 r)

/-- One step of the search: the bit is kept if `k` keys reach the candidate. -/
abbrev stepRow (k : BitVec 32) (key : ι → BitVec 32) (bit p : BitVec 32) : BitVec 32 :=
  Scalar.select (IntOp.cmpi .sge (countW fun i => IntOp.cmpi .sge (key i) (IntOp.xori (IntOp.ori p bit) 2147483648#32)) k)
    (IntOp.ori p bit) p

/-- The search from the highest bit down. -/
def searchRow (k : BitVec 32) (key : ι → BitVec 32) : ℕ → BitVec 32
  | 0 => 0#32
  | n + 1 => stepRow k key (BitVec.ofNat 32 (2 ^ (31 - n))) (searchRow k key n)

/-- The largest value of the elements of rank `v`. -/
abbrev rowMax (x : ι → EReal) (r : ι → BitVec 32) (v : BitVec 32) : EReal :=
  Finset.univ.fold max (Ideal.ofBits FTy.f32 4286578688#32)
    (fun i => Scalar.select (IntOp.cmpi .eq (r i) v) (x i) (Ideal.ofBits FTy.f32 4286578688#32))

/-- The values above `v` and as many copies of `v` as make `k` values. -/
abbrev rowPart (x : ι → EReal) (k : BitVec 32) (v : EReal) : EReal :=
  Scalar.select (IntOp.cmpi .sgt k 0#32) ((∑ i, if v < x i then x i else 0)
    + num (IntOp.subi k (countW fun i => BitVec.ofBool (decide (v < x i)))) * v) 0

/-! ## Words -/

theorem countW_eq (p : ι → BitVec 1) : countW p = BitVec.ofNat 32 (Finset.univ.filter fun i => p i = 1#1).card :=
  IndicatorCount.fold_addi_setWidth_eq_card p Finset.univ

/-- A sum of words is the word of the numbers' sum. -/
theorem fold_ofNat {κ : Type} (f : κ → ℕ) (S : Finset κ) :
    S.fold IntOp.addi 0#32 (fun i => BitVec.ofNat 32 (f i)) = BitVec.ofNat 32 (∑ i ∈ S, f i) := by
  classical
  induction S using Finset.induction_on with
  | empty => rfl
  | insert a S ha ih =>
    rw [Finset.fold_insert ha, ih, Finset.sum_insert ha, BitVec.ofNat_add]
    rfl

theorem countW_dec (p : ι → Prop) [DecidablePred p] :
    countW (fun i => BitVec.ofBool (decide (p i))) = BitVec.ofNat 32 (Finset.univ.filter p).card := by
  rw [countW_eq]
  refine congrArg (fun s : Finset ι => BitVec.ofNat 32 s.card) (Finset.filter_congr fun i _ => ?_)
  rw [ofBool_eq_one, decide_eq_true_iff]

theorem sge_ofNat (a b : ℕ) (ha : a < 2 ^ 31) (hb : b < 2 ^ 31) :
    IntOp.cmpi .sge (BitVec.ofNat 32 a) (BitVec.ofNat 32 b) = BitVec.ofBool (decide (b ≤ a)) := by
  show BitVec.ofBool ((BitVec.ofNat 32 b).sle (BitVec.ofNat 32 a)) = _
  unfold BitVec.sle
  rw [toInt_small a ha, toInt_small b hb]
  congr 1
  simp

theorem keyW_small (n : ℕ) (hn : n < 2 ^ 31) : keyW (BitVec.ofNat 32 n) = BitVec.ofNat 32 n := by
  have e := sge_ofNat n 0 hn (by decide)
  unfold keyW
  rw [show (0#32 : BitVec 32) = BitVec.ofNat 32 0 from rfl, e]
  simp [Scalar.select]

/-- A word with its sign bit flipped, read signed. -/
theorem flip_toInt (c : BitVec 32) : (IntOp.xori c 2147483648#32).toInt = (c.toNat : ℤ) - 2 ^ 31 := by
  have hz : c.toNat < 2 ^ (31 + 1) := c.isLt
  have e : (c ^^^ 2147483648#32).toNat = c.toNat ^^^ 2 ^ 31 := by
    rw [BitVec.toNat_xor]; rfl
  show (c ^^^ 2147483648#32).toInt = _
  rw [BitVec.toInt_eq_toNat_cond, e, SortNet.xor_two_pow_top c.toNat hz]
  split_ifs <;> omega

theorem key_ge (n : ℕ) (hn : n < 2 ^ 31) (c : BitVec 32) :
    IntOp.cmpi .sge (BitVec.ofNat 32 n) (IntOp.xori c 2147483648#32) = BitVec.ofBool (decide (c.toNat ≤ n + 2 ^ 31)) := by
  show BitVec.ofBool ((IntOp.xori c 2147483648#32).sle (BitVec.ofNat 32 n)) = _
  unfold BitVec.sle
  rw [toInt_small n hn, flip_toInt]
  congr 1
  rw [decide_eq_decide]
  omega

/-! ## The search -/

/-- How many of the numbers reach `c`, counted from `2 ^ 31` below. -/
def reach (r : ι → ℕ) (c : ℕ) : ℕ := (Finset.univ.filter fun i => c ≤ r i + 2 ^ 31).card

theorem step_eq (r : ι → ℕ) (hr : ∀ i, r i < 2 ^ 31) (hA : Fintype.card ι < 2 ^ 31) (k : ℕ) (hk : k < 2 ^ 31) (bit p : BitVec 32) :
    stepRow (BitVec.ofNat 32 k) (fun i => BitVec.ofNat 32 (r i)) bit p
      = if k ≤ reach r (IntOp.ori p bit).toNat then IntOp.ori p bit else p := by
  unfold stepRow
  simp only [key_ge _ (hr _)]
  rw [countW_dec (fun i => (IntOp.ori p bit).toNat ≤ r i + 2 ^ 31),
    sge_ofNat _ k (lt_of_le_of_lt (Finset.card_le_univ _) hA) hk]
  unfold reach
  by_cases h : k ≤ (Finset.univ.filter fun i => (IntOp.ori p bit).toNat ≤ r i + 2 ^ 31).card
  · rw [if_pos h, decide_eq_true h]; rfl
  · rw [if_neg h, decide_eq_false h]; rfl

/-- After `n` steps the found bits are a multiple of `2 ^ (32 - n)` that `k` numbers reach, and the next multiple they don't. -/
theorem search_inv (r : ι → ℕ) (hr : ∀ i, r i < 2 ^ 31) (hA : Fintype.card ι < 2 ^ 31) (k : ℕ) (hk : k ≤ Fintype.card ι) (n : ℕ) (hn : n ≤ 32) :
    2 ^ (32 - n) ∣ (searchRow (BitVec.ofNat 32 k) (fun i => BitVec.ofNat 32 (r i)) n).toNat
    ∧ k ≤ reach r (searchRow (BitVec.ofNat 32 k) (fun i => BitVec.ofNat 32 (r i)) n).toNat
    ∧ ((searchRow (BitVec.ofNat 32 k) (fun i => BitVec.ofNat 32 (r i)) n).toNat + 2 ^ (32 - n) < 2 ^ 32
      → reach r ((searchRow (BitVec.ofNat 32 k) (fun i => BitVec.ofNat 32 (r i)) n).toNat + 2 ^ (32 - n)) < k) := by
  induction n with
  | zero =>
    refine ⟨by simp [searchRow], ?_, by simp [searchRow]⟩
    have : reach r 0 = Fintype.card ι := by simp [reach]
    simpa [searchRow, this] using hk
  | succ n ih =>
    obtain ⟨⟨q, hq⟩, h1, h2⟩ := ih (by omega)
    rw [searchRow, step_eq r hr hA k (lt_of_le_of_lt hk hA)]
    generalize searchRow (BitVec.ofNat 32 k) (fun i => BitVec.ofNat 32 (r i)) n = p at *
    obtain ⟨j, hj⟩ : ∃ j, 31 - n = j := ⟨_, rfl⟩
    have hj1 : 32 - n = j + 1 := by omega
    have hj2 : 32 - (n + 1) = j := by omega
    rw [hj1] at hq h2
    rw [hj, hj2]
    have hb : 2 ^ j < 2 ^ 32 := Nat.pow_lt_pow_right (by decide) (by omega)
    have hc : (IntOp.ori p (BitVec.ofNat 32 (2 ^ j))).toNat = p.toNat + 2 ^ j := by
      show (p ||| BitVec.ofNat 32 (2 ^ j)).toNat = _
      rw [BitVec.toNat_or, BitVec.toNat_ofNat, Nat.mod_eq_of_lt hb, hq]
      exact (Nat.two_pow_add_eq_or_of_lt (i := j + 1) (Nat.pow_lt_pow_right (by decide) (by omega)) q).symm
    have e2 : 2 ^ (j + 1) = 2 ^ j + 2 ^ j := by rw [pow_succ]; omega
    by_cases h : k ≤ reach r (IntOp.ori p (BitVec.ofNat 32 (2 ^ j))).toNat
    · rw [if_pos h, hc]
      rw [hc] at h
      refine ⟨⟨2 * q + 1, by rw [hq, e2]; ring⟩, h, fun hl => ?_⟩
      have := h2 (by omega)
      rwa [e2, ← Nat.add_assoc] at this
    · rw [if_neg h]
      rw [hc] at h
      exact ⟨⟨2 * q, by rw [hq, e2]; ring⟩, h1, fun _ => by omega⟩

/-- The search finds the `k`-th largest number. -/
theorem search_found (r : ι → ℕ) (hr : ∀ i, r i < 2 ^ 31 - 1) (hA : Fintype.card ι < 2 ^ 31) (k : ℕ) (h0 : 0 < k) (hk : k ≤ Fintype.card ι) :
    ∃ i0, keyW (IntOp.xori (searchRow (BitVec.ofNat 32 k) (fun i => BitVec.ofNat 32 (r i)) 32) 2147483648#32) = BitVec.ofNat 32 (r i0)
      ∧ k ≤ (Finset.univ.filter fun i => r i0 ≤ r i).card ∧ (Finset.univ.filter fun i => r i0 < r i).card < k := by
  obtain ⟨-, h1, h2⟩ := search_inv r (fun i => lt_trans (hr i) (by decide)) hA k hk 32 (le_refl _)
  generalize hp : searchRow (BitVec.ofNat 32 k) (fun i => BitVec.ofNat 32 (r i)) 32 = p at *
  have hpl := p.isLt
  have h2' : p.toNat + 1 < 2 ^ 32 → reach r (p.toNat + 1) < k := by simpa using h2
  have hne : p.toNat + 1 < 2 ^ 32 := by
    by_contra hc
    have : reach r p.toNat = 0 := by
      unfold reach
      rw [Finset.card_eq_zero, Finset.filter_eq_empty_iff]
      intro i _
      have := hr i
      omega
    omega
  have h3 := h2' hne
  obtain ⟨i0, hi0⟩ : ∃ i0, r i0 + 2 ^ 31 = p.toNat := by
    by_contra hc
    push Not at hc
    have : reach r p.toNat ≤ reach r (p.toNat + 1) := Finset.card_le_card (fun i hi => by
      rw [Finset.mem_filter] at hi ⊢
      have := hc i
      exact ⟨hi.1, by omega⟩)
    omega
  have hri := hr i0
  have e : IntOp.xori p 2147483648#32 = BitVec.ofNat 32 (r i0) := by
    rw [← BitVec.toInt_inj, flip_toInt, toInt_small _ (by omega)]
    omega
  refine ⟨i0, by rw [e, keyW_small _ (by omega)], ?_, ?_⟩
  · refine h1.trans (le_of_eq (congrArg Finset.card (Finset.filter_congr fun i _ => ?_)))
    omega
  · refine lt_of_le_of_lt (le_of_eq (congrArg Finset.card (Finset.filter_congr fun i _ => ?_))) h3
    omega

/-! ## The sum -/

/-- The number of smaller values. -/
def rank (x : ι → EReal) (i : ι) : ℕ := (Finset.univ.filter fun j => x j < x i).card

theorem rank_lt_card (x : ι → EReal) (i : ι) : rank x i < Fintype.card ι :=
  Finset.card_lt_univ_of_notMem (x := i) (by simp)

theorem rank_lt (x : ι → EReal) (i j : ι) : rank x i < rank x j ↔ x i < x j := by
  constructor
  · intro h
    by_contra hc
    have : rank x j ≤ rank x i := Finset.card_le_card fun a ha => by
      rw [Finset.mem_filter] at ha ⊢
      exact ⟨ha.1, lt_of_lt_of_le ha.2 (not_lt.mp hc)⟩
    omega
  · intro h
    refine Finset.card_lt_card ⟨fun a ha => ?_, fun hs => ?_⟩
    · rw [Finset.mem_filter] at ha ⊢
      exact ⟨ha.1, lt_trans ha.2 h⟩
    · have : i ∈ Finset.univ.filter fun a => x a < x i := hs (by rw [Finset.mem_filter]; exact ⟨Finset.mem_univ _, h⟩)
      rw [Finset.mem_filter] at this
      exact lt_irrefl _ this.2

theorem rank_eq (x : ι → EReal) (i j : ι) : rank x i = rank x j ↔ x i = x j := by
  have h1 := rank_lt x i j
  have h2 := rank_lt x j i
  constructor
  · intro h
    exact le_antisymm (not_lt.mp fun h' => by have := h2.mpr h'; omega) (not_lt.mp fun h' => by have := h1.mpr h'; omega)
  · intro h
    unfold rank; rw [h]

/-- The value of the elements of a rank. -/
theorem rowMax_eq (x : ι → EReal) (hA : Fintype.card ι < 2 ^ 31) (i0 : ι) :
    rowMax x (fun i => BitVec.ofNat 32 (rank x i)) (BitVec.ofNat 32 (rank x i0)) = x i0 := by
  have hs : ∀ i, Scalar.select (IntOp.cmpi .eq (BitVec.ofNat 32 (rank x i)) (BitVec.ofNat 32 (rank x i0))) (x i) (Ideal.ofBits FTy.f32 4286578688#32)
      = if x i = x i0 then x i0 else ⊥ := fun i => by
    have h1 := rank_lt_card x i
    have h2 := rank_lt_card x i0
    have e : (BitVec.ofNat 32 (rank x i) == BitVec.ofNat 32 (rank x i0)) = decide (x i = x i0) := by
      rw [Bool.eq_iff_iff, beq_iff_eq, decide_eq_true_iff, ← rank_eq, ← BitVec.toInt_inj, toInt_small _ (by omega), toInt_small _ (by omega)]
      omega
    show Scalar.select (BitVec.ofBool (BitVec.ofNat 32 (rank x i) == BitVec.ofNat 32 (rank x i0))) _ _ = _
    rw [e, ofBits_ninf]
    by_cases h : x i = x i0
    · simp [h, Scalar.select]
    · simp [h, Scalar.select]
  unfold rowMax
  rw [ofBits_ninf] at *
  simp only [hs]
  refine le_antisymm ?_ ?_
  · rw [Finset.fold_max_le]
    refine ⟨bot_le, fun i _ => ?_⟩
    split_ifs
    · exact le_refl _
    · exact bot_le
  · rw [Finset.le_fold_max]
    exact Or.inr ⟨i0, Finset.mem_univ _, by rw [if_pos rfl]⟩

/-- Of a row of values, what the third call's body computes is the sum over any set of `k` elements that no other element exceeds. -/
theorem row_topk (x : ι → EReal) (hA : Fintype.card ι < 2 ^ 31) (k : ℕ) (hk : k ≤ Fintype.card ι) (S : Finset ι) (hS : S.card = k)
    (htop : ∀ i ∈ S, ∀ j, j ∉ S → x j ≤ x i) :
    rowPart x (BitVec.ofNat 32 k) (rowMax x (rankW x)
      (keyW (IntOp.xori (searchRow (BitVec.ofNat 32 k) (fun i => keyW (rankW x i)) 32) 2147483648#32))) = ∑ i ∈ S, x i := by
  classical
  have er : ∀ i, rankW x i = BitVec.ofNat 32 (rank x i) := fun i => countW_dec fun j => x j < x i
  have ek : ∀ i, keyW (rankW x i) = BitVec.ofNat 32 (rank x i) := fun i => by
    rw [er, keyW_small _ (lt_trans (rank_lt_card x i) hA)]
  rw [show (fun i => keyW (rankW x i)) = fun i => BitVec.ofNat 32 (rank x i) from funext ek,
    show rankW x = fun i => BitVec.ofNat 32 (rank x i) from funext er]
  rcases Nat.eq_zero_or_pos k with h0 | h0
  · subst h0
    rw [Finset.card_eq_zero.mp hS, Finset.sum_empty]
    unfold rowPart
    rw [show IntOp.cmpi .sgt (BitVec.ofNat 32 0) 0#32 = 0#1 from by decide]
    rfl
  obtain ⟨i0, e, h1, h2⟩ := search_found (rank x) (fun i => by have := rank_lt_card x i; omega) hA k h0 hk
  rw [e, rowMax_eq x hA i0]
  have hle : ∀ i, rank x i0 ≤ rank x i ↔ x i0 ≤ x i := fun i => by
    rw [← not_lt, rank_lt, not_lt]
  simp only [hle] at h1
  simp only [rank_lt] at h2
  unfold rowPart
  have hsg : IntOp.cmpi .sgt (BitVec.ofNat 32 k) 0#32 = 1#1 := by
    show BitVec.ofBool ((0#32).slt (BitVec.ofNat 32 k)) = _
    unfold BitVec.slt
    rw [toInt_small k (by omega)]
    simp [h0]
  rw [hsg, countW_dec (fun i => x i0 < x i)]
  show (∑ i, if x i0 < x i then x i else 0) + num (IntOp.subi (BitVec.ofNat 32 k) (BitVec.ofNat 32 _)) * x i0 = _
  generalize hG : (Finset.univ.filter fun i => x i0 < x i) = G at *
  have hm : G.card < k := h2
  have hsub : IntOp.subi (BitVec.ofNat 32 k) (BitVec.ofNat 32 G.card) = BitVec.ofNat 32 (k - G.card) := by
    show BitVec.ofNat 32 k - BitVec.ofNat 32 G.card = _
    apply BitVec.eq_of_toNat_eq
    rw [BitVec.toNat_sub, BitVec.toNat_ofNat, BitVec.toNat_ofNat, BitVec.toNat_ofNat]
    omega
  rw [hsub, num_eq, toInt_small _ (by omega)]
  have hGS : G ⊆ S := by
    intro j hj
    by_contra hc
    rw [← hG, Finset.mem_filter] at hj
    have : S ⊆ G := fun i hi => by
      rw [← hG, Finset.mem_filter]
      exact ⟨Finset.mem_univ _, lt_of_lt_of_le hj.2 (htop i hi j hc)⟩
    have := Finset.card_le_card this
    omega
  have hSG : ∀ i ∈ S, x i0 ≤ x i := by
    intro i hi
    by_contra hc
    have : (Finset.univ.filter fun j => x i0 ≤ x j) ⊆ S.erase i := fun j hj => by
      rw [Finset.mem_filter] at hj
      rw [Finset.mem_erase]
      refine ⟨fun h => hc (h ▸ hj.2), ?_⟩
      by_contra hjS
      exact hc (hj.2.trans (htop i hi j hjS))
    have := Finset.card_le_card this
    rw [Finset.card_erase_of_mem hi] at this
    omega
  rw [← Finset.sum_filter, hG, ← Finset.sum_sdiff hGS, add_comm]
  refine congrArg (· + _) ?_
  rw [Finset.sum_congr rfl (g := fun _ => x i0) (fun i hi => ?_), Finset.sum_const, Finset.card_sdiff_of_subset hGS, hS, EReal.nsmul_eq_mul]
  · norm_cast
  · rw [Finset.mem_sdiff] at hi
    refine le_antisymm (not_lt.mp fun h => hi.2 ?_) (hSG i hi.1)
    rw [← hG, Finset.mem_filter]
    exact ⟨Finset.mem_univ _, h⟩

end Cert.Ssd

end
-- ==== Proof.ValC.lean ====
module

public import proofs.«01_k».proof.Proof.PassC
public import proofs.«01_k».proof.Proof.Search

/-! # What the third call computes and leaves in its two results, over the extended reals -/

@[expose] public section

set_option maxRecDepth 16384

noncomputable section

namespace Cert.KernelIdeal.Ssd

open Cert.KernelIdeal Cert.KernelIdeal.Gen Cert.Ssd
open Idealize.ShloMosaic Idealize.ShloMosaic.TcCoe

/-! ## The search, as a recursion over the bits -/

/-- One step of the search, on all rows. -/
def stepV (k : IVec S16x1 32) (key : IVec S16x20000 32) (bit : BitVec 32) (p : IVec S16x1 32) : IVec S16x1 32 :=
  select (cmpi .sge (shapeCast S16x1 (multiReductionI .add [1] S16 (extui 32 (cmpi .sge key (broadcastTo S16x20000
    (xori (ori p (broadcast S16x1 bit)) (broadcast S16x1 2147483648#32)) broadcasts_S16x1_S16x20000)) natLt_1_32) 0#32
    reduces_S16x20000_S16 rfl) shapeCasts_S16_S16x1) k) (ori p (broadcast S16x1 bit)) p

/-- The search on all rows, from the highest bit down. -/
def searchV (k : IVec S16x1 32) (key : IVec S16x20000 32) : ℕ → IVec S16x1 32
  | 0 => broadcast S16x1 0#32
  | n + 1 => stepV k key (BitVec.ofNat 32 (2 ^ (31 - n))) (searchV k key n)

theorem step_at (k : IVec S16x1 32) (key : IVec S16x20000 32) (bit : BitVec 32) (p : IVec S16x1 32) (b : Fin 16) :
    stepV k key bit p (ix2 b 0) = stepRow (k (ix2 b 0)) (fun a : Fin 20000 => key (ix2 b a)) bit (p (ix2 b 0)) := by
  pointwise [stepV]

theorem search_at (k : IVec S16x1 32) (key : IVec S16x20000 32) (b : Fin 16) (n : ℕ) :
    searchV k key n (ix2 b 0) = searchRow (k (ix2 b 0)) (fun a : Fin 20000 => key (ix2 b a)) n := by
  induction n with
  | zero => rfl
  | succ n ih => rw [searchV, step_at, ih, searchRow]

variable (x : Vec Ideal S16x20000 .f32)

/-- The body's 32 steps are the recursion's. -/
theorem cH_eq : cH x = searchV (cCount x) (cKey x) 32 := rfl

/-! ## The body's values -/

/-- The number of masked losses of a row. -/
def fgCount (b : Fin 16) : ℕ := (Finset.univ.filter fun a : Fin 20000 => x (ix2 b a) = (⊥ : EReal)).card

theorem fgCount_le (b : Fin 16) : fgCount x b ≤ 20000 := (Finset.card_le_univ _).trans (le_of_eq (Fintype.card_fin _))

theorem pay2_at (b : Fin 16) : k2_pay2 x (ix2 b 0) = BitVec.ofNat 32 (fgCount x b) := by
  pointwise [k2_pay2, k2_pay1]
  rw [ofBits_ninf]
  exact countW_dec fun a => x (ix2 b a) = (⊥ : EReal)

theorem count_at (b : Fin 16) : cCount x (ix2 b 0) = BitVec.ofNat 32 (3 * fgCount x b) := by
  have e : cCount x (ix2 b 0) = 3#32 * k2_pay2 x (ix2 b 0) := rfl
  rw [e, pay2_at, BitVec.ofNat_mul]

theorem pay4_at (b : Fin 16) (a : Fin 20000) : k2_pay4 x (ix2 b a) = rankW (fun a : Fin 20000 => x (ix2 b a)) a := by
  pointwise [k2_pay4, k2_pay1]

theorem key_at (b : Fin 16) (a : Fin 20000) : cKey x (ix2 b a) = keyW (rankW (fun a : Fin 20000 => x (ix2 b a)) a) := by
  rw [← pay4_at]
  rfl

/-- The first result from what the search found. -/
theorem pay24_at (X : FVec Ideal S16x20000 .f32) (k : IVec S16x1 32) (r : IVec S16x20000 32) (p : IVec S16x1 32) :
    k2_pay24 X k r p (ix2 0 0) = ∑ b : Fin 16, rowPart (fun a : Fin 20000 => X (ix2 b a)) (k (ix2 b 0))
      (rowMax (fun a : Fin 20000 => X (ix2 b a)) (fun a => r (ix2 b a)) (keyW (IntOp.xori (p (ix2 b 0)) 2147483648#32))) := by
  pointwise [k2_pay24]
  exact Finset.sum_congr rfl fun b _ => Fin.sum_univ_one _

/-- The first result: over the rows, the sum over any set of as many elements as three times the row's masked losses that no other element exceeds. -/
theorem outC1_at (h : ∀ b, 3 * fgCount x b ≤ 20000) (S : Fin 16 → Finset (Fin 20000)) (hS : ∀ b, (S b).card = 3 * fgCount x b)
    (htop : ∀ b, ∀ i ∈ S b, ∀ j, j ∉ S b → (x (ix2 b j) : EReal) ≤ x (ix2 b i)) :
    outC1 x (ix2 0 0) = ∑ b : Fin 16, ∑ a ∈ S b, (x (ix2 b a) : EReal) := by
  have hc : Fintype.card (Fin 20000) = 20000 := Fintype.card_fin _
  have e1 : ∀ i : S16x20000.Idx, k2_pay1 x i = x i := fun i => by
    obtain ⟨b, a, rfl⟩ : ∃ b a, i = ix2 b a := ⟨i 0, i 1, funext fun d => match d with | ⟨0, _⟩ => rfl | ⟨1, _⟩ => rfl⟩
    pointwise [k2_pay1]
  rw [outC1, pay24_at]
  refine Finset.sum_congr rfl fun b _ => ?_
  refine Eq.trans ?_ (row_topk (fun a : Fin 20000 => (x (ix2 b a) : EReal)) (by rw [hc]; decide) (3 * fgCount x b) (by rw [hc]; exact h b)
    (S b) (hS b) (htop b))
  simp only [e1, pay4_at, cH_eq, search_at, count_at, key_at]

/-- The second result: the number of masked losses. -/
theorem outC2_at : outC2 x (ix2 0 0) = BitVec.ofNat 32 (∑ b : Fin 16, fgCount x b) := by
  pointwise [outC2, k2_pay25]
  simp only [pay2_at]
  rw [fold_ofNat (fun x_1 : Fin 16 × Fin 1 => fgCount x x_1.1), Fintype.sum_prod_type]
  exact congrArg (BitVec.ofNat 32) (Finset.sum_congr rfl fun b _ => Fin.sum_univ_one _)

end Cert.KernelIdeal.Ssd
end
-- ==== Proof.ArrC.lean ====
module

public import proofs.«01_k».proof.Proof.ValC

/-! # What the third call leaves in its two results, over the extended reals -/

@[expose] public section

set_option maxRecDepth 16384

noncomputable section

namespace Cert.KernelIdeal.Ssd

open Cert.KernelIdeal Cert.KernelIdeal.Gen Cert.Ssd
open Idealize.ShloMosaic Idealize.ShloMosaic.TcCoe

variable (V : (c : Dev nD) → (b : Ref sig .tc) → Buf (Elt Ideal) ((c : Thread nD τ).loc b))

theorem idxC0 : ∀ t : Fin cfg2.N, win2_0.index t = ![0, 0] := (by decide +kernel : ∀ t : Fin grid2.N, win2_0.index t = ![0, 0])

/-- The third call's argument at an anchor of an image. -/
abbrev valC (c : Dev nD) (b : Fin 16) (a : Fin 20000) : EReal := V c main_v11 (ix2 b a)

theorem blkC0_at (c : Dev nD) (t : Fin cfg2.N) (b : Fin 16) (a : Fin 20000) :
    (blkC V c 0 t (ix2 b a) : EReal) = valC V c b a := by
  show blkC V c 0 t (ix2 b a) = V c main_v11 (ix2 b a)
  blk_ext [blkC, idxC0 t]

/-- The number of masked losses among a row's. -/
def fgOf (f : Fin 20000 → EReal) : ℕ := (Finset.univ.filter fun a => f a = ⊥).card

/-- The first result, over the entries of the argument. -/
theorem outC1_val (X : Vec Ideal S16x20000 .f32) (f : Fin 16 → Fin 20000 → EReal) (hX : ∀ b a, (X (ix2 b a) : EReal) = f b a)
    (h : ∀ b, 3 * fgOf (f b) ≤ 20000) (S : Fin 16 → Finset (Fin 20000)) (hS : ∀ b, (S b).card = 3 * fgOf (f b))
    (htop : ∀ b, ∀ i ∈ S b, ∀ j, j ∉ S b → f b j ≤ f b i) :
    outC1 X (ix2 0 0) = ∑ b : Fin 16, ∑ a ∈ S b, f b a := by
  obtain rfl : (fun b a => (X (ix2 b a) : EReal)) = f := funext fun b => funext fun a => hX b a
  exact outC1_at X h S hS htop

/-- The second result, over the entries of the argument. -/
theorem outC2_val (X : Vec Ideal S16x20000 .f32) (f : Fin 16 → Fin 20000 → EReal) (hX : ∀ b a, (X (ix2 b a) : EReal) = f b a) :
    outC2 X (ix2 0 0) = BitVec.ofNat 32 (∑ b : Fin 16, fgOf (f b)) := by
  obtain rfl : (fun b a => (X (ix2 b a) : EReal)) = f := funext fun b => funext fun a => hX b a
  exact outC2_at X

/-- The first array after the last point, from what the body leaves. -/
theorem arrC1_of (c : Dev nD) (O : Vec Ideal S1x1 .f32) (hO : (datC V c).after 1 t2_0 = O) (g : EReal) (e : O (ix2 0 0) = g) :
    (datC V c).arrAt 1 cfg2.N = fun _ : S1x1.Idx => g := by
  refine (datC V c).arrAt_eq_of_after_last 1 t2_0 (by decide +kernel) _ fun j => ?_
  rw [hO]
  blk_simp
  rw [idx_11 j]
  exact e

/-- The second array after the last point, from what the body leaves. -/
theorem arrC2_of (c : Dev nD) (O : Vec Ideal S1x1 .i32) (hO : (datC V c).after 2 t2_0 = O) (g : BitVec 32) (e : O (ix2 0 0) = g) :
    (datC V c).arrAt 2 cfg2.N = fun _ : S1x1.Idx => g := by
  refine (datC V c).arrAt_eq_of_after_last 2 t2_0 (by decide +kernel) _ fun j => ?_
  rw [hO]
  blk_simp
  rw [idx_11 j]
  exact e

/-- The sum of the selected losses after the third call. -/
theorem arrC1 (c : Dev nD) (h : ∀ b, 3 * fgOf (valC V c b) ≤ 20000) (S : Fin 16 → Finset (Fin 20000))
    (hS : ∀ b, (S b).card = 3 * fgOf (valC V c b)) (htop : ∀ b, ∀ i ∈ S b, ∀ j, j ∉ S b → valC V c b j ≤ valC V c b i) :
    (datC V c).arrAt 1 cfg2.N = fun _ : S1x1.Idx => ∑ b : Fin 16, ∑ a ∈ S b, valC V c b a :=
  arrC1_of V c _ (afterC1 V c t2_0) _ (outC1_val (blkC V c 0 t2_0) (valC V c) (blkC0_at V c t2_0) h S hS htop)

/-- The number of foreground anchors after the third call. -/
theorem arrC2 (c : Dev nD) :
    (datC V c).arrAt 2 cfg2.N = fun _ : S1x1.Idx => BitVec.ofNat 32 (∑ b : Fin 16, fgOf (valC V c b)) :=
  arrC2_of V c _ (afterC2 V c t2_0) _ (outC2_val (blkC V c 0 t2_0) (valC V c) (blkC0_at V c t2_0))

end Cert.KernelIdeal.Ssd

end
-- ==== Proof.CrossEnt.lean ====
module

public import proofs.«01_k».proof.Proof.Spec

/-! # The cross entropy of finite logits, and the log-softmax with the row's maximum taken off -/

@[expose] public section

noncomputable section

namespace Cert.Ssd

open Idealize.ShloMosaic

/-- A finite sum of real numbers, over the extended reals. -/
theorem sum_real {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

theorem log_sum_exp (y : Fin 81 → ℝ) :
    Ideal.log (∑ c, Ideal.exp ((y c : ℝ) : EReal)) = ((Real.log (∑ c, Real.exp (y c)) : ℝ) : EReal) := by
  simp only [Ideal.exp_coe]
  rw [sum_real, Ideal.log_coe, if_neg]
  rw [not_le]
  exact Finset.sum_pos (fun c _ => Real.exp_pos _) Finset.univ_nonempty

/-- The cross entropy of finite logits is finite. -/
theorem crossEnt_real (x : Fin 81 → EReal) (hx : ∀ c, ∃ r : ℝ, x c = r) (t : Fin 81) : ∃ r : ℝ, crossEnt x t = r := by
  choose y hy using hx
  refine ⟨Real.log (∑ c, Real.exp (y c)) - y t, ?_⟩
  unfold crossEnt
  simp only [hy]
  rw [log_sum_exp, ← EReal.coe_sub]

/-- Less any finite number taken off all logits first, the log-softmax is the same. -/
theorem crossEnt_shift (x : Fin 81 → EReal) (hx : ∀ c, ∃ r : ℝ, x c = r) (M : EReal) (hM : ∃ r : ℝ, M = r) (t : Fin 81) :
    -(x t - M - Ideal.log (∑ c, Ideal.exp (x c - M))) = crossEnt x t := by
  choose y hy using hx
  obtain ⟨μ, rfl⟩ := hM
  unfold crossEnt
  simp only [hy, ← EReal.coe_sub]
  rw [log_sum_exp, log_sum_exp, ← EReal.coe_sub, ← EReal.coe_neg, ← EReal.coe_sub]
  congr 1
  simp only [Real.exp_sub]
  rw [← Finset.sum_div, Real.log_div _ (Real.exp_ne_zero _), Real.log_exp]
  · ring
  · exact (Finset.sum_pos (fun c _ => Real.exp_pos _) Finset.univ_nonempty).ne'

/-- The maximum of finite logits is finite. -/
theorem fold_max_real {ι : Type} [Fintype ι] [Nonempty ι] (x : ι → EReal) (hx : ∀ c, ∃ r : ℝ, x c = r) :
    ∃ r : ℝ, Finset.univ.fold max (⊥ : EReal) x = r := by
  obtain ⟨c0⟩ := ‹Nonempty ι›
  have h1 : Finset.univ.fold max (⊥ : EReal) x ≠ ⊥ := by
    intro h
    have : x c0 ≤ Finset.univ.fold max (⊥ : EReal) x := (Finset.le_fold_max _).mpr (Or.inr ⟨c0, Finset.mem_univ _, le_refl _⟩)
    rw [h, le_bot_iff] at this
    obtain ⟨r, hr⟩ := hx c0
    rw [hr] at this
    exact EReal.coe_ne_bot r this
  have h2 : Finset.univ.fold max (⊥ : EReal) x ≠ ⊤ := by
    intro h
    have : Finset.univ.fold max (⊥ : EReal) x < ⊤ := (Finset.fold_max_lt _).mpr ⟨bot_lt_top, fun c _ => by
      obtain ⟨r, hr⟩ := hx c
      rw [hr]; exact EReal.coe_lt_top r⟩
    exact absurd h this.ne
  exact ⟨_, (EReal.coe_toReal h2 h1).symm⟩

end Cert.Ssd

end
-- ==== Proof.Glue.lean ====
module

public import proofs.«01_k».proof.Proof.Run
public import proofs.«01_k».proof.Proof.ArrA
public import proofs.«01_k».proof.Proof.ArrB
public import proofs.«01_k».proof.Proof.ArrC
public import proofs.«01_k».proof.Proof.CrossEnt
public import Idealize.ShloMosaic.Lib.StableHlo.ReadAt

/-! # What the whole kernel computes, over the extended reals: the calls and the host operations around them -/

@[expose] public section

set_option maxRecDepth 16384

noncomputable section

namespace Cert.KernelIdeal.Ssd

open Cert.KernelIdeal Cert.KernelIdeal.Gen Cert.Ssd
open Idealize.ShloMosaic Idealize.ShloMosaic.TcCoe

variable (m : (ℓ : Loc nD τ sig) → Buf (Elt Ideal) ℓ) (ρ : Dev nD → PrngReg) (c : Dev nD)

/-! ## The arguments' entries -/

/-- Coordinate `k` of box `g` of image `b`. -/
abbrev box (b : Fin 16) (g : Fin 100) (k : Fin 4) : EReal := m ((c : Thread nD τ).loc main_arg0) (ix3 b g k)
/-- The label of box `g` of image `b`. -/
abbrev label (b : Fin 16) (g : Fin 100) : BitVec 32 := m ((c : Thread nD τ).loc main_arg1) (ix2 b g)
/-- The box regression of an anchor. -/
abbrev regr (b : Fin 16) (a : Fin 20000) (k : Fin 4) : EReal := m ((c : Thread nD τ).loc main_arg2) (ix3 b a k)
/-- The logits of an anchor. -/
abbrev logit (b : Fin 16) (a : Fin 20000) (k : Fin 81) : EReal := m ((c : Thread nD τ).loc main_arg3) (ix3 b a k)
/-- The anchor's own coordinates. -/
abbrev anch (b : Fin 16) (a : Fin 20000) (k : Fin 4) : EReal := m ((c : Thread nD τ).loc main_arg4) (ix3 b a k)
/-- The match index of an anchor. -/
abbrev mtch (b : Fin 16) (a : Fin 20000) : BitVec 32 := m ((c : Thread nD τ).loc main_arg5) (ix2 b a)

/-! ## Before the first call -/

theorem U1_v0 (b : Fin 16) (k : Fin 4) (a : Fin 20000) : U1 m ρ c main_v0 (ix3 b k a) = regr m c b a k := by
  unfold U1 W1
  after_reads_at
theorem U1_v1 (b : Fin 16) (k : Fin 4) (a : Fin 20000) : U1 m ρ c main_v1 (ix3 b k a) = anch m c b a k := by
  unfold U1 W1
  after_reads_at
theorem U1_v2 (b : Fin 16) (a : Fin 20000) : U1 m ρ c main_v2 (ix3 b 0 a) = mtch m c b a := by
  unfold U1 W1
  after_reads_at
theorem U1_v6_box (b : Fin 16) (k : Fin 4) (g : Fin 100) : U1 m ρ c main_v6 (ix3 b k.castSucc g) = box m c b g k := by
  unfold U1 W1
  after_reads_at
  rw [dif_pos (show k.castSucc.val < 4 from k.isLt)]
  rfl
theorem U1_v6_label (b : Fin 16) (g : Fin 100) : U1 m ρ c main_v6 (ix3 b 4 g) = num (label m c b g) := by
  unfold U1 W1
  after_reads_at

/-! ## After the first call -/

/-- The class of an anchor. -/
abbrev cls (b : Fin 16) (a : Fin 20000) : BitVec 32 := clsOf (label m c b) (mtch m c b a)

theorem mtch_lt (h : ∀ b a, (mtch m c b a).toInt < 100) (b : Fin 16) (a : Fin 20000) : (U1 m ρ c main_v2 (ix3 b 0 a) : BitVec 32).toInt < 100 := by
  rw [U1_v2]; exact h b a

theorem W2_cls (h : ∀ b a, (mtch m c b a).toInt < 100) (b : Fin 16) (a : Fin 20000) :
    W2 m ρ c main_v7_0 (ix3 b 0 a) = num (cls m c b a) := by
  have e := (W2_arr m ρ c 4).trans (arrA4 (U1 m ρ) c (mtch_lt m ρ c h))
  refine (congrFun e (ix3 b 0 a)).trans ?_
  show Scalar.select (fgBit (U1 m ρ c main_v2 (ix3 b 0 a))) (U1 m ρ c main_v6 (ix3 b 4 (boxOf (U1 m ρ c main_v2 (ix3 b 0 a))))) (0 : EReal) = _
  rw [U1_v2, U1_v6_label]
  unfold cls clsOf Scalar.select
  split_ifs
  · rfl
  · rw [num_eq]; simp

/-- The box loss over all anchors. -/
def boxSum : EReal := ∑ b : Fin 16, ∑ a : Fin 20000,
  boxLoss (box m c b (boxOf (mtch m c b a))) (anch m c b a) (regr m c b a) (mtch m c b a)

theorem W2_loss (h : ∀ b a, (mtch m c b a).toInt < 100) : W2 m ρ c main_v7_1 (ix2 0 0) = boxSum m c := by
  have e := (W2_arr m ρ c 5).trans (arrA5 (U1 m ρ) c (mtch_lt m ρ c h))
  have e2 : ∑ b : Fin 16, lossA (U1 m ρ) c b = boxSum m c := by
    unfold boxSum lossA
    refine Finset.sum_congr rfl fun b _ => Finset.sum_congr rfl fun a _ => ?_
    rw [U1_v2]
    congr 1 <;> funext k <;> first | rw [U1_v0] | rw [U1_v1] | rw [U1_v6_box] | skip
  exact (congrFun e (ix2 0 0)).trans e2

/-! ## The second call -/

/-- The image of the anchor in lane group `l` of row `r` of block `t`. -/
def imgOf (t : Fin 25) (r : Fin 100) (l : Fin 128) : Fin 16 := ⟨(t.val * 12800 + r.val * 128 + l.val) / 20000, by omega⟩
/-- Its number in the image. -/
def ancOf (t : Fin 25) (r : Fin 100) (l : Fin 128) : Fin 20000 := ⟨(t.val * 12800 + r.val * 128 + l.val) % 20000, by omega⟩

theorem flat_split (q : ℕ) : q / 12800 * 12800 + q / 128 % 100 * 128 + q % 128 = q := by
  have : q / 12800 = q / 128 / 100 := by rw [Nat.div_div_eq_div_mul]
  omega

/-- A sum over blocks, rows and lane groups is the sum over images and anchors. -/
theorem sum_blocks (f : Fin 16 → Fin 20000 → EReal) :
    ∑ t : Fin 25, ∑ r : Fin 100, ∑ l : Fin 128, f (imgOf t r l) (ancOf t r l) = ∑ b : Fin 16, ∑ a : Fin 20000, f b a := by
  let E : (Fin 25 × Fin 100 × Fin 128) ≃ (Fin 16 × Fin 20000) :=
    { toFun := fun p => (imgOf p.1 p.2.1 p.2.2, ancOf p.1 p.2.1 p.2.2)
      invFun := fun q => (⟨(q.1.val * 20000 + q.2.val) / 12800, by omega⟩, ⟨(q.1.val * 20000 + q.2.val) / 128 % 100, by omega⟩,
        ⟨(q.1.val * 20000 + q.2.val) % 128, by omega⟩)
      left_inv := fun p => by
        obtain ⟨t, r, l⟩ := p
        refine Prod.ext (Fin.ext ?_) (Prod.ext (Fin.ext ?_) (Fin.ext ?_)) <;> (simp only [imgOf, ancOf]; omega)
      right_inv := fun q => by
        obtain ⟨b, a⟩ := q
        refine Prod.ext (Fin.ext ?_) (Fin.ext ?_) <;> (simp only [imgOf, ancOf, flat_split]; omega) }
  have e := Fintype.sum_equiv E (fun p => f (imgOf p.1 p.2.1 p.2.2) (ancOf p.1 p.2.1 p.2.2)) (fun q => f q.1 q.2) (fun _ => rfl)
  rw [Fintype.sum_prod_type, Fintype.sum_prod_type] at e
  rw [← e]
  refine Finset.sum_congr rfl fun t _ => ?_
  rw [Fintype.sum_prod_type]

theorem U3_v8_at (t : Fin 25) (r : Fin 100) (x : Fin 10368) : U3 m ρ c main_v8 (ix3 t r x) =
    logit m c ⟨(t.val * 1036800 + r.val * 10368 + x.val) / 1620000, by omega⟩
      ⟨(t.val * 1036800 + r.val * 10368 + x.val) / 81 % 20000, by omega⟩ ⟨x.val % 81, by omega⟩ := by
  have e : W2 m ρ c (Proc.tc.devRef main_arg3) = m ((c : Thread nD τ).loc main_arg3) :=
    (W2_of m ρ c main_arg3 (args_kept main_arg3 (by decide)).2.1).trans (W1_of m ρ c main_arg3 (args_kept main_arg3 (by decide)).1.1)
  unfold logit
  rw [← e]
  unfold U3 W3
  after_reads_at

theorem U3_v8 (t : Fin 25) (r : Fin 100) (l : Fin 128) (k : Fin 81) (hx : 81 * l.val + k.val < 10368) :
    U3 m ρ c main_v8 (ix3 t r ⟨81 * l.val + k.val, hx⟩) = logit m c (imgOf t r l) (ancOf t r l) k := by
  have hk := k.isLt
  have e1 : (t.val * 1036800 + r.val * 10368 + (81 * l.val + k.val)) / 1620000 = (t.val * 12800 + r.val * 128 + l.val) / 20000 := by omega
  have e2 : (t.val * 1036800 + r.val * 10368 + (81 * l.val + k.val)) / 81 % 20000 = (t.val * 12800 + r.val * 128 + l.val) % 20000 := by omega
  have e3 : (81 * l.val + k.val) % 81 = k.val := by omega
  rw [U3_v8_at]
  have a1 : ∀ {b b' : Fin 16} {a a' : Fin 20000} {k k' : Fin 81}, b = b' → a = a' → k = k' → logit m c b a k = logit m c b' a' k' := by
    rintro _ _ _ _ _ _ rfl rfl rfl; rfl
  exact a1 (Fin.ext e1) (Fin.ext e2) (Fin.ext e3)

theorem U3_v9 (h : ∀ b a, (mtch m c b a).toInt < 100) (t : Fin 25) (r : Fin 100) (l : Fin 128) :
    U3 m ρ c main_v9 (ix3 t r l) = num (cls m c (imgOf t r l) (ancOf t r l)) := by
  rw [← W2_cls m ρ c h]
  unfold U3 W3
  after_reads_at
  rfl

/-- The class of an anchor as a column of its logits. -/
def clsFin (b : Fin 16) (a : Fin 20000) : Fin 81 := ⟨min (cls m c b a).toNat 80, by omega⟩

/-- Labels in range give classes in range. -/
theorem cls_eq (hl : ∀ b g, 1 ≤ (label m c b g).toInt ∧ (label m c b g).toInt < 81) (b : Fin 16) (a : Fin 20000) :
    cls m c b a = BitVec.ofNat 32 (clsFin m c b a).val := by
  have h0 : 0 ≤ (cls m c b a).toInt ∧ (cls m c b a).toInt < 81 := by
    unfold cls clsOf Scalar.select
    split_ifs
    · have := hl b (boxOf (mtch m c b a)); exact ⟨by omega, this.2⟩
    · decide
  have key : ∀ w : BitVec 32, 0 ≤ w.toInt ∧ w.toInt < 81 → w = BitVec.ofNat 32 (min w.toNat 80) := by
    intro w h0
    rw [← BitVec.toInt_inj, toInt_small _ (by omega)]
    have h1 := BitVec.toInt_eq_toNat_cond w
    have := w.isLt
    split_ifs at h1 <;> omega
  exact key _ h0

/-- An anchor is of the foreground when it has a box. -/
theorem cls_pos (hl : ∀ b g, 1 ≤ (label m c b g).toInt ∧ (label m c b g).toInt < 81) (b : Fin 16) (a : Fin 20000) :
    0 < (clsFin m c b a).val ↔ 0 ≤ (mtch m c b a).toInt := by
  have e := cls_eq m c hl b a
  have hb := (clsFin m c b a).isLt
  rw [← fgBit_eq_one]
  have e' := congrArg BitVec.toInt e
  rw [toInt_small _ (by omega)] at e'
  unfold cls clsOf Scalar.select at e'
  by_cases hf : fgBit (mtch m c b a) = 1
  · rw [if_pos hf] at e'
    have := (hl b (boxOf (mtch m c b a))).1
    exact iff_of_true (by omega) hf
  · rw [if_neg hf] at e'
    have z : (0#32 : BitVec 32).toInt = 0 := by decide
    exact iff_of_false (by omega) hf

/-- The cross entropy of an anchor. -/
abbrev ce (b : Fin 16) (a : Fin 20000) : EReal := crossEnt (logit m c b a) (clsFin m c b a)

/-- The masked loss of an anchor. -/
def neg (b : Fin 16) (a : Fin 20000) : EReal := if 0 ≤ (mtch m c b a).toInt then ⊥ else ce m c b a

/-- The class loss of the foreground anchors. -/
def fgSum : EReal := ∑ b : Fin 16, ∑ a : Fin 20000, if 0 ≤ (mtch m c b a).toInt then ce m c b a else 0

/-- The number of foreground anchors of an image. -/
def fgNum (b : Fin 16) : ℕ := (Finset.univ.filter fun a : Fin 20000 => 0 ≤ (mtch m c b a).toInt).card

variable (h : ∀ b a, (mtch m c b a).toInt < 100) (hl : ∀ b g, 1 ≤ (label m c b g).toInt ∧ (label m c b g).toInt < 81)
include h hl

theorem ceB_eq (t : Fin 25) (r : Fin 100) (l : Fin 128) :
    ceB (U3 m ρ) c t r l (clsFin m c (imgOf t r l) (ancOf t r l)) = ce m c (imgOf t r l) (ancOf t r l) := by
  unfold ceB ce
  congr 1
  exact funext fun k => U3_v8 m ρ c t r l k _

theorem W4_neg (t : Fin 25) (r : Fin 100) (l : Fin 128) : W4 m ρ c main_v10_0 (ix3 t r l) = neg m c (imgOf t r l) (ancOf t r l) := by
  have e := (W4_arr m ρ c 2).trans (arrB2 (U3 m ρ) (fun t r l => clsFin m c (imgOf t r l) (ancOf t r l)) c
    (fun t r l => by rw [U3_v9 m ρ c h, cls_eq m c hl]))
  refine (congrFun e (ix3 t r l)).trans ?_
  show (if 0 < (clsFin m c (imgOf t r l) (ancOf t r l)).val then (⊥ : EReal) else ceB (U3 m ρ) c t r l (clsFin m c (imgOf t r l) (ancOf t r l))) = _
  rw [ceB_eq m ρ c h hl]
  unfold neg
  exact if_congr (cls_pos m c hl _ _) rfl rfl

theorem W4_fgSum : W4 m ρ c main_v10_1 (ix2 0 0) = fgSum m c := by
  have e := (W4_arr m ρ c 3).trans (arrB3 (U3 m ρ) (fun t r l => clsFin m c (imgOf t r l) (ancOf t r l)) c
    (fun t r l => by rw [U3_v9 m ρ c h, cls_eq m c hl]))
  have e1 : @Eq EReal (W4 m ρ c main_v10_1 (ix2 0 0)) (∑ t : Fin 25, lossB (U3 m ρ) (fun t r l => clsFin m c (imgOf t r l) (ancOf t r l)) c t) := congrFun e (ix2 0 0)
  refine Eq.trans (α := EReal) e1 ?_
  refine Eq.trans ?_ (sum_blocks fun b a => if 0 ≤ (mtch m c b a).toInt then ce m c b a else 0)
  refine Finset.sum_congr rfl fun t _ => ?_
  unfold lossB
  refine Finset.sum_congr rfl fun r _ => Finset.sum_congr rfl fun l _ => ?_
  rw [ceB_eq m ρ c h hl]
  exact if_congr (cls_pos m c hl _ _) rfl rfl

/-! ## The third call -/

theorem U5_neg (b : Fin 16) (a : Fin 20000) : valC (U5 m ρ) c b a = neg m c b a := by
  have hb := b.isLt
  have ha := a.isLt
  show U5 m ρ c main_v11 (ix2 b a) = _
  have e : U5 m ρ c main_v11 (ix2 b a) = W4 m ρ c main_v10_0
      (ix3 ⟨(b.val * 20000 + a.val) / 12800, by omega⟩ ⟨(b.val * 20000 + a.val) / 128 % 100, by omega⟩ ⟨(b.val * 20000 + a.val) % 128, by omega⟩) := by
    unfold U5 W5
    after_reads_at
  rw [e, W4_neg m ρ c h hl]
  congr 1
  · exact Fin.ext (by simp only [imgOf, flat_split]; omega)
  · exact Fin.ext (by simp only [ancOf, flat_split]; omega)

variable (hf : ∀ b a k, ∃ r : ℝ, logit m c b a k = r)
include hf

omit h hl in
theorem neg_bot (b : Fin 16) (a : Fin 20000) : neg m c b a = ⊥ ↔ 0 ≤ (mtch m c b a).toInt := by
  unfold neg
  split_ifs with h0
  · simp [h0]
  · obtain ⟨r, hr⟩ := crossEnt_real (logit m c b a) (hf b a) (clsFin m c b a)
    unfold ce
    rw [hr]
    simp [h0]

omit h hl in
theorem fgOf_neg (b : Fin 16) : fgOf (neg m c b) = fgNum m c b :=
  congrArg Finset.card (Finset.filter_congr fun a _ => neg_bot m c hf b a)

theorem valC_eq (b : Fin 16) : valC (U5 m ρ) c b = neg m c b := funext fun a => U5_neg m ρ c h hl b a

theorem W6_count : W6 m ρ c main_v12_1 (ix2 0 0) = BitVec.ofNat 32 (∑ b : Fin 16, fgNum m c b) := by
  have e := (W6_arr m ρ c 2).trans (arrC2 (U5 m ρ) c)
  refine (congrFun e (ix2 0 0)).trans ?_
  refine congrArg (BitVec.ofNat 32) (Finset.sum_congr rfl fun b _ => ?_)
  rw [valC_eq m ρ c h hl hf, fgOf_neg m c hf]

theorem W6_top (hn : ∀ b, 4 * fgNum m c b ≤ 20000) (S : Fin 16 → Finset (Fin 20000)) (hS : ∀ b, (S b).card = 3 * fgNum m c b)
    (htop : ∀ b, ∀ i ∈ S b, ∀ j, j ∉ S b → neg m c b j ≤ neg m c b i) :
    W6 m ρ c main_v12_0 (ix2 0 0) = ∑ b : Fin 16, ∑ a ∈ S b, neg m c b a := by
  have e := (W6_arr m ρ c 1).trans (arrC1 (U5 m ρ) c
    (fun b => by rw [valC_eq m ρ c h hl hf, fgOf_neg m c hf]; have := hn b; omega) S
    (fun b => by rw [valC_eq m ρ c h hl hf, fgOf_neg m c hf]; exact hS b)
    (fun b i hi j hj => by rw [valC_eq m ρ c h hl hf]; exact htop b i hi j hj))
  have e1 : @Eq EReal (W6 m ρ c main_v12_0 (ix2 0 0)) (∑ b : Fin 16, ∑ a ∈ S b, valC (U5 m ρ) c b a) := congrFun e (ix2 0 0)
  refine Eq.trans (α := EReal) e1 ?_
  refine Finset.sum_congr rfl fun b _ => ?_
  rw [valC_eq m ρ c h hl hf]

/-! ## The two results -/

/-- The divisor: the number of foreground anchors, at least 1. -/
def norm : EReal := max 1 (num (BitVec.ofNat 32 (∑ b : Fin 16, fgNum m c b)))

theorem W6_boxSum : W6 m ρ c main_v7_1 (ix2 0 0) = boxSum m c := by
  rw [← W2_loss m ρ c h]
  exact congrFun ((W6_of m ρ c main_v7_1 (by decide)).trans ((W5_of m ρ c main_v7_1 (by decide)).trans
    ((W4_of m ρ c main_v7_1 (by decide)).trans (W3_of m ρ c main_v7_1 (by decide))))) (ix2 0 0)

theorem W6_fgSum : W6 m ρ c main_v10_1 (ix2 0 0) = fgSum m c := by
  rw [← W4_fgSum m ρ c h hl]
  exact congrFun ((W6_of m ρ c main_v10_1 (by decide)).trans (W5_of m ρ c main_v10_1 (by decide))) (ix2 0 0)

/-- The kernel's first result. -/
theorem kernel_box : W7 m ρ c main_v17 = fun _ => Ideal.div (boxSum m c) (norm m c) := by
  funext i
  unfold norm
  rw [← W6_boxSum m ρ c h hl hf, ← W6_count m ρ c h hl hf]
  unfold W7
  after_reads_at

/-- The kernel's second result. -/
theorem kernel_class (hn : ∀ b, 4 * fgNum m c b ≤ 20000) (S : Fin 16 → Finset (Fin 20000)) (hS : ∀ b, (S b).card = 3 * fgNum m c b)
    (htop : ∀ b, ∀ i ∈ S b, ∀ j, j ∉ S b → neg m c b j ≤ neg m c b i) :
    W7 m ρ c main_v21 = fun _ => Ideal.div (fgSum m c + ∑ b : Fin 16, ∑ a ∈ S b, neg m c b a) (norm m c) := by
  funext i
  unfold norm
  rw [← W6_fgSum m ρ c h hl hf, ← W6_count m ρ c h hl hf, ← W6_top m ρ c h hl hf hn S hS htop]
  unfold W7
  after_reads_at

end Cert.KernelIdeal.Ssd

end
-- ==== Proof.Pre.lean ====
module

public import proofs.«01_k».proof.Defs
public import proofs.«01_k».proof.Proof.Gen.Pre_ssd_inputs
public import proofs.«01_k».proof.Proof.Spec
public import Idealize.ShloMosaic.Lib.ReduceAll
public import Idealize.ShloMosaic.Lib.IndicatorCount

/-! # What the precondition says of the entries of the arguments -/

@[expose] public section

set_option maxRecDepth 16384

noncomputable section

namespace Cert.Pre_ssd_inputs.Ssd

open Idealize.ShloMosaic Cert.Ssd Cert.Pre_ssd_inputs Cert.Pre_ssd_inputs.Gen
open Idealize.ShloMosaic (ix0 ix1 ix2 ix3)

attribute [local instance] Cert.Pre_ssd_inputs.Gen.facts

theorem and_one {a b : BitVec 1} (h : a &&& b = 1#1) : a = 1#1 ∧ b = 1#1 := by
  rcases bit_cases a with rfl | rfl <;> rcases bit_cases b with rfl | rfl <;> revert h <;> decide

/-- An extended real of finite magnitude is real. -/
theorem real_of_mag (x : EReal) (h : mag x < Ideal.ofBits FTy.f32 0x7F800000#32) : ∃ r : ℝ, x = r := by
  induction x with
  | bot => exact absurd h (by simp [mag, FloatOps.absf, Ideal.ofBits, Ideal.ieee])
  | top => exact absurd h (by simp [mag, FloatOps.absf, Ideal.ofBits, Ideal.ieee])
  | coe r => exact ⟨r, rfl⟩

variable (x0 : FVec Ideal S16x100x4 .f32) (x1 : IVec S16x100 32) (x2 : FVec Ideal S16x20000x4 .f32)
  (x3 : FVec Ideal S16x20000x81 .f32) (x4 : FVec Ideal S16x20000x4 .f32) (x5 : IVec S16x20000 32)

/-- The precondition's five conditions, entry by entry. -/
theorem unpack (h : fn (F := Ideal) x0 x1 x2 x3 x4 x5 = fun _ => 1#1) :
    (∀ (b : Fin 16) (a : Fin 20000), (x5 (ix2 b a) : BitVec 32).toInt < 100)
    ∧ (∀ (b : Fin 16) (g : Fin 100), 1 ≤ (x1 (ix2 b g) : BitVec 32).toInt ∧ (x1 (ix2 b g) : BitVec 32).toInt < 81)
    ∧ (∀ (b : Fin 16) (a : Fin 20000) (k : Fin 81), ∃ r : ℝ, (x3 (ix3 b a k) : EReal) = r)
    ∧ (∀ b : Fin 16, 4 * (Finset.univ.filter fun a : Fin 20000 => 0 ≤ (x5 (ix2 b a) : BitVec 32).toInt).card ≤ 20000) := by
  have h0 := congrFun h ix0
  unfold fn fn_part1 at h0
  obtain ⟨h1, hN⟩ := and_one h0
  obtain ⟨h2, hF⟩ := and_one h1
  obtain ⟨hM, hL⟩ := and_one h2
  refine ⟨fun b a => ?_, fun b g => ?_, fun b a k => ?_, fun b => ?_⟩
  · have e0 := Host.reduce_andi_all _ _ _ _ _ hM (ix2 b a)
    have e : BitVec.ofBool ((x5 (ix2 b a) : BitVec 32).slt 100#32) = 1#1 := e0
    rw [ofBool_eq_one] at e
    simpa [BitVec.slt] using e
  · have e0 := Host.reduce_andi_all _ _ _ _ _ hL (ix2 b g)
    obtain ⟨e1, e2⟩ := and_one e0
    have f1 : BitVec.ofBool ((1#32).sle (x1 (ix2 b g) : BitVec 32)) = 1#1 := e1
    have f2 : BitVec.ofBool ((x1 (ix2 b g) : BitVec 32).slt 81#32) = 1#1 := e2
    rw [ofBool_eq_one] at f1 f2
    exact ⟨by simpa [BitVec.sle] using f1, by simpa [BitVec.slt] using f2⟩
  · have e := Host.reduce_andi_all _ _ _ _ _ hF (ix3 b a k)
    have e' : BitVec.ofBool (decide (mag (x3 (ix3 b a k)) < Ideal.ofBits FTy.f32 0x7F800000#32)) = 1#1 := e
    rw [ofBool_eq_one, decide_eq_true_eq] at e'
    exact real_of_mag _ e'
  · have e := Host.reduce_andi_all _ _ _ _ _ hN (ix1 b)
    have hc : (Host.reduce IntOp.addi (extui 32 (cmpi .sge x5 (broadcastInDim S16x20000 ![] bcast_S_S16x20000 (constantI S_ 32 0#32))) natLt_1_32)
        (constantI S_ 32 0#32) reducesTo_S16x20000_S16_d1 h_S_ : IVec S16 32) (ix1 b)
        = BitVec.ofNat 32 (Finset.univ.filter fun a : Fin 20000 => 0 ≤ (x5 (ix2 b a) : BitVec 32).toInt).card := by
      pointwise
      refine (IndicatorCount.fold_addi_setWidth_eq_card (fun a : Fin 20000 => fgBit (x5 (ix2 b a))) Finset.univ).trans ?_
      exact congrArg (fun s : Finset (Fin 20000) => BitVec.ofNat 32 s.card) (Finset.filter_congr fun a _ => fgBit_eq_one _)
    have hle : (Finset.univ.filter fun a : Fin 20000 => 0 ≤ (x5 (ix2 b a) : BitVec 32).toInt).card ≤ 20000 :=
      (Finset.card_filter_le _ _).trans (by rw [Finset.card_univ, Fintype.card_fin])
    generalize (Finset.univ.filter fun a : Fin 20000 => 0 ≤ (x5 (ix2 b a) : BitVec 32).toInt).card = n at hc hle ⊢
    have e' : IntOp.cmpi .sle (4#32 * BitVec.ofNat 32 n) 20000#32 = 1#1 := by rw [← hc]; exact e
    have e2 : BitVec.ofBool ((4#32 * BitVec.ofNat 32 n).sle 20000#32) = 1#1 := e'
    rw [ofBool_eq_one, ← BitVec.ofNat_mul] at e2
    have e3 : (BitVec.ofNat 32 (4 * n)).toInt ≤ (20000#32).toInt := by simpa [BitVec.sle] using e2
    rw [toInt_small _ (by omega)] at e3
    have : (20000#32 : BitVec 32).toInt = 20000 := by decide
    omega

end Cert.Pre_ssd_inputs.Ssd

end
-- ==== Proof.RefGather.lean ====
module

public import proofs.«01_k».proof.Proof.Gen.ReferenceIdeal.Run
public import Idealize.ShloMosaic.Lib.Pipeline.ValueKit
public import Idealize.ShloMosaic.Lib.Pointwise

/-! # The reference's three gathers, read at an index -/

@[expose] public section

set_option maxRecDepth 16384

noncomputable section

namespace Cert.ReferenceIdeal.Ssd

open Cert.ReferenceIdeal Cert.ReferenceIdeal.Gen
open Idealize.ShloMosaic

variable {α : Type}

/-- A start index read signed and clamped into `[0, n - 1]`. -/
def clampIdx (n : ℕ) (w : BitVec 32) : ℕ := min w.toInt.toNat (n - 1)

theorem clampIdx_lt {n : ℕ} (hn : 0 < n) (w : BitVec 32) : clampIdx n w < n := by unfold clampIdx; omega

/-- Coordinate `c` of the box that anchor `a` of image `b` is matched with. -/
theorem gatherBox (x : S16x100x4.Idx → α) (idx : IVec S16x20000x1 32) (b : Fin 16) (a : Fin 20000) (c : Fin 4) :
    Host.gather gather_S16x100x4_S16x20000x1_S16x20000x4_2_1_0_0_1_2_114 x idx (ix3 b a c)
      = x (ix3 b ⟨clampIdx 100 (idx (ix3 b a 0)), clampIdx_lt (by decide) _⟩ c) := by
  unfold Host.gather
  congr 1
  funext d
  refine Fin.ext ?_
  show gather_S16x100x4_S16x20000x1_S16x20000x4_2_1_0_0_1_2_114.start _ idx d + gather_S16x100x4_S16x20000x1_S16x20000x4_2_1_0_0_1_2_114.batchCoord _ d + gather_S16x100x4_S16x20000x1_S16x20000x4_2_1_0_0_1_2_114.offCoord _ d = _
  match d with
  | ⟨0, _⟩ =>
    rw [GatherDims.start_batching _ _ _ _ (by decide +revert), GatherDims.offCoord_eq_zero _ _ _ (by decide +revert)]
    unfold GatherDims.batchCoord
    rw [dif_pos (by decide +revert)]
    exact (Nat.add_zero _).trans (Nat.zero_add _)
  | ⟨1, _⟩ =>
    rw [GatherDims.batchCoord_eq_zero _ _ _ (by decide +revert), GatherDims.offCoord_eq_zero _ _ _ (by decide +revert)]
    unfold GatherDims.start
    rw [dif_pos (by decide +revert)]
    have hsi : gather_S16x100x4_S16x20000x1_S16x20000x4_2_1_0_0_1_2_114.siIdx (ix3 b a c) ⟨List.idxOf (⟨1, by decide⟩ : Fin _) gather_S16x100x4_S16x20000x1_S16x20000x4_2_1_0_0_1_2_114.startIndexMap,
        List.idxOf_lt_length_iff.2 (by decide +revert)⟩ = ix3 b a 0 := by
      funext e
      refine Fin.ext ?_
      match e with
      | ⟨0, _⟩ => rfl
      | ⟨1, _⟩ => rfl
      | ⟨2, _⟩ => rfl
    rw [hsi]
    rfl
  | ⟨2, _⟩ =>
    rw [GatherDims.batchCoord_eq_zero _ _ _ (by decide +revert)]
    unfold GatherDims.start GatherDims.offCoord
    rw [dif_neg (by decide +revert), dif_pos (by decide +revert)]
    exact Nat.zero_add _

/-- The label of the box that anchor `a` of image `b` is matched with. -/
theorem gatherLabel (x : S16x100.Idx → α) (idx : IVec S16x20000x1 32) (b : Fin 16) (a : Fin 20000) :
    Host.gather gather_S16x100_S16x20000x1_S16x20000_n_1_0_0_1_2_11 x idx (ix2 b a)
      = x (ix2 b ⟨clampIdx 100 (idx (ix3 b a 0)), clampIdx_lt (by decide) _⟩) := by
  unfold Host.gather
  congr 1
  funext d
  refine Fin.ext ?_
  show gather_S16x100_S16x20000x1_S16x20000_n_1_0_0_1_2_11.start _ idx d + gather_S16x100_S16x20000x1_S16x20000_n_1_0_0_1_2_11.batchCoord _ d + gather_S16x100_S16x20000x1_S16x20000_n_1_0_0_1_2_11.offCoord _ d = _
  match d with
  | ⟨0, _⟩ =>
    rw [GatherDims.start_batching _ _ _ _ (by decide +revert), GatherDims.offCoord_eq_zero _ _ _ (by decide +revert)]
    unfold GatherDims.batchCoord
    rw [dif_pos (by decide +revert)]
    exact (Nat.add_zero _).trans (Nat.zero_add _)
  | ⟨1, _⟩ =>
    rw [GatherDims.batchCoord_eq_zero _ _ _ (by decide +revert), GatherDims.offCoord_eq_zero _ _ _ (by decide +revert)]
    unfold GatherDims.start
    rw [dif_pos (by decide +revert)]
    have hsi : gather_S16x100_S16x20000x1_S16x20000_n_1_0_0_1_2_11.siIdx (ix2 b a) ⟨List.idxOf (⟨1, by decide⟩ : Fin _) gather_S16x100_S16x20000x1_S16x20000_n_1_0_0_1_2_11.startIndexMap,
        List.idxOf_lt_length_iff.2 (by decide +revert)⟩ = ix3 b a 0 := by
      funext e
      refine Fin.ext ?_
      match e with
      | ⟨0, _⟩ => rfl
      | ⟨1, _⟩ => rfl
      | ⟨2, _⟩ => rfl
    rw [hsi]
    rfl

/-- The entry of an anchor's row of classes at its class. -/
theorem gatherClass (x : S16x20000x81.Idx → α) (idx : IVec S16x20000x1x1 32) (b : Fin 16) (a : Fin 20000) :
    Host.gather gather_S16x20000x81_S16x20000x1x1_S16x20000x1_n_2_01_01_2_3_111 x idx (ix3 b a 0)
      = x (ix3 b a ⟨clampIdx 81 (idx (ix4 b a 0 0)), clampIdx_lt (by decide) _⟩) := by
  unfold Host.gather
  congr 1
  funext d
  refine Fin.ext ?_
  show gather_S16x20000x81_S16x20000x1x1_S16x20000x1_n_2_01_01_2_3_111.start _ idx d + gather_S16x20000x81_S16x20000x1x1_S16x20000x1_n_2_01_01_2_3_111.batchCoord _ d + gather_S16x20000x81_S16x20000x1x1_S16x20000x1_n_2_01_01_2_3_111.offCoord _ d = _
  match d with
  | ⟨0, _⟩ =>
    rw [GatherDims.start_batching _ _ _ _ (by decide +revert), GatherDims.offCoord_eq_zero _ _ _ (by decide +revert)]
    unfold GatherDims.batchCoord
    rw [dif_pos (by decide +revert)]
    exact (Nat.add_zero _).trans (Nat.zero_add _)
  | ⟨1, _⟩ =>
    rw [GatherDims.start_batching _ _ _ _ (by decide +revert), GatherDims.offCoord_eq_zero _ _ _ (by decide +revert)]
    unfold GatherDims.batchCoord
    rw [dif_pos (by decide +revert)]
    exact (Nat.add_zero _).trans (Nat.zero_add _)
  | ⟨2, _⟩ =>
    rw [GatherDims.batchCoord_eq_zero _ _ _ (by decide +revert), GatherDims.offCoord_eq_zero _ _ _ (by decide +revert)]
    unfold GatherDims.start
    rw [dif_pos (by decide +revert)]
    have hsi : gather_S16x20000x81_S16x20000x1x1_S16x20000x1_n_2_01_01_2_3_111.siIdx (ix3 b a 0) ⟨List.idxOf (⟨2, by decide⟩ : Fin _) gather_S16x20000x81_S16x20000x1x1_S16x20000x1_n_2_01_01_2_3_111.startIndexMap,
        List.idxOf_lt_length_iff.2 (by decide +revert)⟩ = ix4 b a 0 0 := by
      funext e
      refine Fin.ext ?_
      match e with
      | ⟨0, _⟩ => rfl
      | ⟨1, _⟩ => rfl
      | ⟨2, _⟩ => rfl
      | ⟨3, _⟩ => rfl
    rw [hsi]
    rfl

end Cert.ReferenceIdeal.Ssd

end
-- ==== Proof.RefBox.lean ====
module

public import proofs.«01_k».proof.Proof.RefGather
public import proofs.«01_k».proof.Proof.Spec
public import Idealize.ShloMosaic.Lib.ReduceAll
public import Idealize.ShloMosaic.Lib.IndicatorCount

/-! # The reference's box loss -/

@[expose] public section

set_option maxRecDepth 16384

noncomputable section

namespace Cert.ReferenceIdeal.Ssd

open Cert.ReferenceIdeal Cert.ReferenceIdeal.Gen Cert.ReferenceIdeal.Value Cert.Ssd
open Idealize.ShloMosaic
open Idealize.ShloMosaic (ix0 ix1 ix2 ix3 ix4)

variable (V : Valuation τ sig (Elt Ideal))

abbrev rBox (b : Fin 16) (g : Fin 100) (k : Fin 4) : EReal := V (Proc.devRef .tc main_arg0) (ix3 b g k)
abbrev rLabel (b : Fin 16) (g : Fin 100) : BitVec 32 := V (Proc.devRef .tc main_arg1) (ix2 b g)
abbrev rRegr (b : Fin 16) (a : Fin 20000) (k : Fin 4) : EReal := V (Proc.devRef .tc main_arg2) (ix3 b a k)
abbrev rLogit (b : Fin 16) (a : Fin 20000) (k : Fin 81) : EReal := V (Proc.devRef .tc main_arg3) (ix3 b a k)
abbrev rAnch (b : Fin 16) (a : Fin 20000) (k : Fin 4) : EReal := V (Proc.devRef .tc main_arg4) (ix3 b a k)
abbrev rMtch (b : Fin 16) (a : Fin 20000) : BitVec 32 := V (Proc.devRef .tc main_arg5) (ix2 b a)

theorem v1_at (b : Fin 16) (a : Fin 20000) : res_main_v1 V (ix2 b a) = fgBit (rMtch V b a) := by
  unfold res_main_v1
  pointwise

theorem v3_at (b : Fin 16) (a : Fin 20000) : res_main_v3 V (ix2 b a) = IntOp.maxsi (rMtch V b a) 0#32 := by
  unfold res_main_v3
  pointwise

theorem maxsi_toInt (w : BitVec 32) : (IntOp.maxsi w 0#32).toInt = max w.toInt 0 := by
  unfold IntOp.maxsi
  have : (0#32 : BitVec 32).toInt = 0 := by decide
  split_ifs with h <;> simp only [BitVec.slt, decide_eq_true_eq] at h <;> omega

theorem wrap_at (n w : BitVec 32) (h : 0 ≤ w.toInt) : Scalar.select (IntOp.cmpi .slt w 0#32) (w + n) w = w := by
  show (if BitVec.ofBool (w.slt 0#32) = 1 then _ else _) = w
  have : (0#32 : BitVec 32).toInt = 0 := by decide
  rw [if_neg]
  intro hb
  have : w.slt 0#32 = true := (ofBool_eq_one _).1 hb
  simp only [BitVec.slt, decide_eq_true_eq] at this
  omega

theorem clamp_box (w : BitVec 32) : (⟨clampIdx 100 (IntOp.maxsi w 0#32), clampIdx_lt (by decide) _⟩ : Fin 100) = boxOf w := by
  refine Fin.ext ?_
  show min (IntOp.maxsi w 0#32).toInt.toNat (100 - 1) = min w.toInt.toNat 99
  rw [maxsi_toInt]
  omega

theorem uitofp_bit (w : BitVec 1) : (FloatOps.uitofp (F := Ideal) FTy.f32 w : EReal) = if w = 1#1 then 1 else 0 := by
  rcases bit_cases w with rfl | rfl
  · show (((0#1 : BitVec 1).toNat : ℝ) : EReal) = _
    simp
  · show (((1#1 : BitVec 1).toNat : ℝ) : EReal) = _
    simp

theorem count_all (x : IVec S16x20000 1) : (Host.reduce IntOp.addi (extui 32 x natLt_1_32) (constantI S_ 32 0#32) reducesTo_S16x20000_S_d0_1 h_S_ : IVec S_ 32) ix0
    = BitVec.ofNat 32 (∑ b : Fin 16, (Finset.univ.filter fun a : Fin 20000 => x (ix2 b a) = 1#1).card) := by
  pointwise
  refine (IndicatorCount.fold_addi_setWidth_eq_card (fun k : Fin 16 × Fin 20000 => x (ix2 k.1 k.2)) Finset.univ).trans ?_
  rw [Finset.card_filter, Fintype.sum_prod_type]
  simp only [← Finset.card_filter]

theorem count_row (x : IVec S16x20000 1) (b : Fin 16) : (Host.reduce IntOp.addi (extui 32 x natLt_1_32) (constantI S_ 32 0#32) reducesTo_S16x20000_S16_d1 h_S_ : IVec S16 32) (ix1 b)
    = BitVec.ofNat 32 ((Finset.univ.filter fun a : Fin 20000 => x (ix2 b a) = 1#1).card) := by
  pointwise
  exact IndicatorCount.fold_addi_setWidth_eq_card (fun a : Fin 20000 => x (ix2 b a)) Finset.univ

/-- Foreground or not, the smooth L1 terms of an anchor add up to its box loss. -/
theorem box_sum (e : Fin 4 → EReal) (w : BitVec 32) :
    ∑ x : Fin 4, (if mag (e x) < 1 then half * e x * e x else mag (e x) - half) * (FloatOps.uitofp (F := Ideal) FTy.f32 (fgBit w) : EReal)
      = (∑ c : Fin 4, sl1 (e c)) * num ((fgBit w).setWidth 32) := by
  have hu : (FloatOps.uitofp (F := Ideal) FTy.f32 (fgBit w) : EReal) = if 0 ≤ w.toInt then 1 else 0 := by
    rw [uitofp_bit]
    exact if_congr (fgBit_eq_one w) rfl rfl
  rw [num_fg, hu]
  by_cases h : 0 ≤ w.toInt
  · simp only [if_pos h, mul_one]; rfl
  · simp only [if_neg h, mul_zero, Finset.sum_const_zero]

theorem v10_at (b : Fin 16) (a : Fin 20000) (k : Fin 4) : res_main_v10 V (ix3 b a k) = rBox V b (boxOf (rMtch V b a)) k := by
  unfold res_main_v10
  refine (gatherBox _ _ b a k).trans ?_
  rw [← clamp_box]
  pointwise
  simp only [v3_at]
  have e := wrap_at 100#32 (IntOp.maxsi (rMtch V b a) 0#32) (by rw [maxsi_toInt]; omega)
  exact congrArg (fun w : BitVec 32 => rBox V b ⟨clampIdx 100 w, clampIdx_lt (by decide) _⟩ k) e

theorem v73_at (b : Fin 16) (a : Fin 20000) (k : Fin 4) : res_main_v73 V (ix3 b a k)
    = err (rBox V b (boxOf (rMtch V b a))) (rAnch V b a) (rRegr V b a) k := by
  unfold res_main_v73
  pointwise [res_main_v16, res_main_v21, res_main_v36, res_main_v41]
  simp only [v10_at]
  match k with
  | 0 => rfl
  | 1 => rfl
  | 2 => rfl
  | 3 => rfl

/-- The reference's count of foreground anchors. -/
def rFg (b : Fin 16) : ℕ := (Finset.univ.filter fun a : Fin 20000 => 0 ≤ (rMtch V b a).toInt).card

theorem rFg_le (b : Fin 16) : rFg V b ≤ 20000 :=
  (Finset.card_filter_le _ _).trans (by rw [Finset.card_univ, Fintype.card_fin])

theorem v110_at : res_main_v110 V ix0 = max 1 (num (BitVec.ofNat 32 (∑ b : Fin 16, rFg V b))) := by
  have hc : (Host.reduce IntOp.addi (extui 32 (res_main_v1 V) natLt_1_32) (constantI S_ 32 0#32) reducesTo_S16x20000_S_d0_1 h_S_ : IVec S_ 32) ix0
      = BitVec.ofNat 32 (∑ b : Fin 16, rFg V b) := by
    rw [count_all]
    refine congrArg (BitVec.ofNat 32) (Finset.sum_congr rfl fun b _ => congrArg Finset.card (Finset.filter_congr fun a _ => ?_))
    rw [v1_at]
    exact fgBit_eq_one _
  have hs : ∑ b : Fin 16, rFg V b ≤ 320000 := by
    refine (Finset.sum_le_sum fun b _ => rFg_le V b).trans ?_
    simp
  show num (IntOp.maxsi 1#32 ((Host.reduce IntOp.addi (extui 32 (res_main_v1 V) natLt_1_32) (constantI S_ 32 0#32) reducesTo_S16x20000_S_d0_1 h_S_ : IVec S_ 32) ix0)) = _
  rw [hc]
  generalize ∑ b : Fin 16, rFg V b = n at hs ⊢
  rw [num_eq, num_eq, toInt_small n (by omega)]
  have h1 : (1#32 : BitVec 32).toInt = 1 := by decide
  have e : (IntOp.maxsi 1#32 (BitVec.ofNat 32 n)).toInt = max 1 (n : ℤ) := by
    have h2 := toInt_small n (by omega)
    unfold IntOp.maxsi
    split_ifs with h <;> simp only [BitVec.slt, decide_eq_true_eq] at h <;> omega
  rw [e]
  push_cast
  rfl

/-- The reference's first result. -/
theorem v112_at : val3 V (Proc.devRef .tc main_v112) ix0 =
    Ideal.div (∑ b : Fin 16, ∑ a : Fin 20000, boxLoss (rBox V b (boxOf (rMtch V b a))) (rAnch V b a) (rRegr V b a) (rMtch V b a))
      (res_main_v110 V ix0) := by
  rw [val3_main_v112]
  pointwise [res_main_v74]
  simp only [v73_at, v1_at]
  simp only [boxLoss, ← box_sum]

end Cert.ReferenceIdeal.Ssd

end
-- ==== Proof.RefClass.lean ====
module

public import proofs.«01_k».proof.Proof.RefBox
public import proofs.«01_k».proof.Proof.CrossEnt

/-! # The reference's class loss of an anchor -/

@[expose] public section

set_option maxRecDepth 16384

noncomputable section

namespace Cert.ReferenceIdeal.Ssd

open Cert.ReferenceIdeal Cert.ReferenceIdeal.Gen Cert.ReferenceIdeal.Value Cert.Ssd
open Idealize.ShloMosaic
open Idealize.ShloMosaic (ix0 ix1 ix2 ix3 ix4)

variable (V : Valuation τ sig (Elt Ideal))

/-- The class of an anchor as a word. -/
abbrev rCls (b : Fin 16) (a : Fin 20000) : BitVec 32 := clsOf (rLabel V b) (rMtch V b a)

theorem call0_v5_at (b : Fin 16) (a : Fin 20000) : res_main_call0_v5 V (ix3 b a 0) = IntOp.maxsi (rMtch V b a) 0#32 := by
  unfold res_main_call0_v5
  pointwise
  simp only [v3_at]
  exact wrap_at 100#32 (IntOp.maxsi (rMtch V b a) 0#32) (by rw [maxsi_toInt]; omega)

theorem in_range (w : BitVec 32) (n : ℕ) (hn : n < 2 ^ 31) (h : 0 ≤ w.toInt ∧ w.toInt ≤ n) :
    IntOp.andi (IntOp.cmpi .sge w 0#32) (IntOp.cmpi .sle w (BitVec.ofNat 32 n)) = 1#1 := by
  have e1 : IntOp.cmpi .sge w 0#32 = 1#1 := (fgBit_eq_one w).2 h.1
  have e2 : IntOp.cmpi .sle w (BitVec.ofNat 32 n) = 1#1 := by
    show BitVec.ofBool (w.sle (BitVec.ofNat 32 n)) = 1#1
    rw [ofBool_eq_one]
    simp only [BitVec.sle, decide_eq_true_eq]
    rw [toInt_small n hn]
    exact h.2
  rw [e1, e2]
  rfl

theorem fold_and_one {ι : Type} (s : Finset ι) (f : ι → BitVec 1) (h : ∀ i ∈ s, f i = 1#1) : s.fold IntOp.andi 1#1 f = 1#1 := by
  classical
  induction s using Finset.induction_on with
  | empty => rfl
  | insert a s ha ih =>
    rw [Finset.fold_insert ha, h a (Finset.mem_insert_self a s), ih fun i hi => h i (Finset.mem_insert_of_mem hi)]
    rfl

theorem idx3 (x : S16x20000x1.Idx) : ∃ (b : Fin 16) (a : Fin 20000), x = ix3 b a 0 :=
  ⟨x 0, x 1, by
    funext i
    match i with
    | ⟨0, _⟩ => rfl
    | ⟨1, _⟩ => rfl
    | ⟨2, _⟩ => exact Subsingleton.elim (α := Fin 1) _ _⟩

theorem idx4 (x : S16x20000x1x1.Idx) : ∃ (b : Fin 16) (a : Fin 20000), x = ix4 b a 0 0 :=
  ⟨x 0, x 1, by
    funext i
    match i with
    | ⟨0, _⟩ => rfl
    | ⟨1, _⟩ => rfl
    | ⟨2, _⟩ => exact Subsingleton.elim (α := Fin 1) _ _
    | ⟨3, _⟩ => exact Subsingleton.elim (α := Fin 1) _ _⟩

theorem v90_at (h : ∀ b a, (rMtch V b a).toInt < 100) (b : Fin 16) (a : Fin 20000) : res_main_v90 V (ix2 b a) = rCls V b a := by
  unfold res_main_v90
  pointwise
  have hm : ∀ s : Finset S16x20000x1.Idx, Finset.fold IntOp.andi (1#1) (fun x => IntOp.andi (IntOp.cmpi .sge (res_main_call0_v5 V x) 0#32)
      (IntOp.cmpi .sle (res_main_call0_v5 V x) 99#32)) s = 1#1 := fun s => fold_and_one s _ fun x _ => ?_
  rw [hm, gatherLabel]
  · simp only [call0_v5_at, clamp_box, v1_at]
    rfl
  · obtain ⟨b', a', rfl⟩ := idx3 x
    rw [call0_v5_at]
    refine in_range _ 99 (by decide) ?_
    rw [maxsi_toInt]
    have := h b' a'
    exact ⟨by omega, by omega⟩

theorem v97_at (h : ∀ b a, (rMtch V b a).toInt < 100) (b : Fin 16) (a : Fin 20000) :
    res_main_v97 V (ix2 b a) = IntOp.cmpi .sgt (rCls V b a) 0#32 := by
  unfold res_main_v97
  pointwise
  rw [v90_at V h]

theorem call4_v5_at (h : ∀ b a, (rMtch V b a).toInt < 100) (b : Fin 16) (a : Fin 20000) (h0 : 0 ≤ (rCls V b a).toInt) :
    res_main_call4_v5 V (ix4 b a 0 0) = rCls V b a := by
  unfold res_main_call4_v5
  pointwise [res_main_v92]
  rw [v90_at V h]
  exact wrap_at 81#32 _ h0

/-- The greatest logit of an anchor. -/
def top (b : Fin 16) (a : Fin 20000) : EReal := Finset.univ.fold max ⊥ (rLogit V b a)

theorem max_row (x : FVec Ideal S16x20000x81 .f32) (b : Fin 16) (a : Fin 20000) :
    (Host.reduce FloatOps.maximumf x (constant S_ .f32 0xFF800000#32) reducesTo_S16x20000x81_S16x20000_d2 h_S_ : FVec Ideal S16x20000 .f32) (ix2 b a)
      = Finset.univ.fold max (⊥ : EReal) fun k : Fin 81 => x (ix3 b a k) := by
  rw [← ofBits_ninf]
  pointwise

theorem shift_at (x : FVec Ideal S16x20000x81 .f32) (y : FVec Ideal S16x20000 .f32) (b : Fin 16) (a : Fin 20000) (k : Fin 81) :
    subf x (broadcastInDim S16x20000x81 ![0, 1, 2] bcast_S16x20000x1_S16x20000x81_0_1_2 (broadcastInDim S16x20000x1 ![0, 1] bcast_S16x20000_S16x20000x1_0_1
      (maximumf (broadcastInDim S16x20000 ![] bcast_S_S16x20000 (constant S_ .f32 0xFF800000#32)) y))) (ix3 b a k)
      = (x (ix3 b a k) - y (ix2 b a) : EReal) := by
  pointwise
  rw [ofBits_ninf, max_eq_right bot_le]

theorem call3_v5_at (b : Fin 16) (a : Fin 20000) (k : Fin 81) : res_main_call3_v5 V (ix3 b a k) = rLogit V b a k - top V b a := by
  unfold res_main_call3_v5 top
  rw [shift_at, max_row]

theorem logp_at (z : FVec Ideal S16x20000x81 .f32) (b : Fin 16) (a : Fin 20000) (k : Fin 81) :
    subf z (broadcastInDim S16x20000x81 ![0, 1, 2] bcast_S16x20000x1_S16x20000x81_0_1_2 (Host.log (broadcastInDim S16x20000x1 ![0, 1] bcast_S16x20000_S16x20000x1_0_1
      (Host.reduceAdd (Host.exp z) (constant S_ .f32 0x00000000#32) reducesTo_S16x20000x81_S16x20000_d2 h_S_)))) (ix3 b a k)
      = (z (ix3 b a k) - Ideal.log (∑ c : Fin 81, Ideal.exp (z (ix3 b a c))) : EReal) := by
  pointwise

/-- The mask of the class gather lets every anchor through. -/
theorem pick_at (z : FVec Ideal S16x20000x81 .f32) (w : IVec S16x20000x1x1 32) (hw : ∀ b a, 0 ≤ (w (ix4 b a 0 0)).toInt ∧ (w (ix4 b a 0 0)).toInt < 81)
    (b : Fin 16) (a : Fin 20000) (t : Fin 81) (ht : (w (ix4 b a 0 0)).toInt = t.val) :
    Host.negf (shapeCast _ (select (Host.reduce IntOp.andi (andi (cmpi .sge w (broadcastInDim S16x20000x1x1 ![] bcast_S_S16x20000x1x1 (constantI S_ 32 0#32))) (cmpi .sle w (broadcastInDim S16x20000x1x1 ![0, 1, 2, 3] bcast_S1x1x1x1_S16x20000x1x1_0_1_2_3 (broadcastInDim S1x1x1x1 ![3] bcast_S1_S1x1x1x1_3 (constantI S1 32 80#32))))) (constantI S_ 1 1#1) reducesTo_S16x20000x1x1_S16x20000x1_d3 h_S_) (Host.gather gather_S16x20000x81_S16x20000x1x1_S16x20000x1_n_2_01_01_2_3_111 z w) (broadcastInDim S16x20000x1 ![] bcast_S_S16x20000x1 (constant S_ .f32 0x7FC00000#32))) shapeCasts_S16x20000x1_S16x20000)
      (ix2 b a) = (-(z (ix3 b a t)) : EReal) := by
  pointwise
  have hm : Finset.fold IntOp.andi (1#1) (fun x : Fin 1 => IntOp.andi (IntOp.cmpi .sge (w (ix4 b a 0 x)) 0#32)
      (IntOp.cmpi .sle (w (ix4 b a 0 x)) 80#32)) Finset.univ = 1#1 := fold_and_one _ _ fun x _ => by
    obtain rfl : x = 0 := Subsingleton.elim _ _
    exact in_range _ 80 (by decide) ⟨(hw b a).1, by have := (hw b a).2; omega⟩
  rw [hm, gatherClass]
  have e : (⟨clampIdx 81 (w (ix4 b a 0 0)), clampIdx_lt (by decide) _⟩ : Fin 81) = t := by
    refine Fin.ext ?_
    have := t.isLt
    show min (w (ix4 b a 0 0)).toInt.toNat (81 - 1) = t.val
    omega
  rw [e]
  rfl

/-- The reference's class loss of an anchor is its cross entropy at its class. -/
theorem v95_at (h : ∀ b a, (rMtch V b a).toInt < 100) (hx : ∀ b a k, ∃ r : ℝ, rLogit V b a k = r)
    (hc : ∀ b a, 0 ≤ (rCls V b a).toInt ∧ (rCls V b a).toInt < 81) (b : Fin 16) (a : Fin 20000) (t : Fin 81) (ht : (rCls V b a).toInt = t.val) :
    res_main_v95 V (ix2 b a) = crossEnt (rLogit V b a) t := by
  have hM : ∃ r : ℝ, top V b a = r := fold_max_real _ (hx b a)
  rw [← crossEnt_shift _ (hx b a) _ hM t]
  have hw : ∀ b a, 0 ≤ (res_main_call4_v5 V (ix4 b a 0 0) : BitVec 32).toInt ∧ (res_main_call4_v5 V (ix4 b a 0 0) : BitVec 32).toInt < 81 := fun b a => by
    rw [call4_v5_at V h b a (hc b a).1]; exact hc b a
  unfold res_main_v95
  refine (pick_at _ _ hw b a t (by rw [call4_v5_at V h b a (hc b a).1]; exact ht)).trans ?_
  rw [logp_at]
  simp only [call3_v5_at]

end Cert.ReferenceIdeal.Ssd

end
-- ==== Proof.Rank.lean ====
module

public import Idealize.ShloMosaic.Lib.SortFacts
public import Mathlib.Data.EReal.Basic
public import Mathlib.Order.Fin.Basic

/-! # Sorting twice gives each entry's rank

A stable sort of a row by its keys, then a sort of the resulting order: the second permutation is the inverse of the first,
so it takes an entry to its rank. -/

@[expose] public section

namespace Cert.Ssd

open Idealize.ShloMosaic

variable {n : ℕ} (key : Fin n → EReal) (R1 R2 : Fin n → Fin n → Bool)
  (h1 : ∀ k k', R1 k k' = decide (key k < key k'))
  (h2 : ∀ k k', R2 k k' = decide (sortedFrom R1 k < sortedFrom R1 k'))

include h2 in
/-- The second sort undoes the first. -/
theorem sort_sort (k : Fin n) : sortedFrom R1 (sortedFrom R2 k) = k := by
  have hm : StrictMono fun k => sortedFrom R1 (sortedFrom R2 k) := by
    intro i j hij
    have e := sortedFrom_noInversion R2 R2 (fun a b h => by rw [h2] at h ⊢; simp only [decide_eq_true_eq, decide_eq_false_iff_not] at *; exact h.asymm)
      (fun a b h => h) (fun a b c hab hbc => by
        rw [h2] at *; simp only [decide_eq_false_iff_not, not_lt] at *; exact hbc.trans hab) i j hij
    rw [h2, decide_eq_false_iff_not, not_lt] at e
    exact lt_of_le_of_ne e fun h => hij.ne (sortedFrom_injective _ (sortedFrom_injective _ h))
  have hs : Function.Surjective fun k => sortedFrom R1 (sortedFrom R2 k) :=
    (sortedFrom_surjective R1).comp (sortedFrom_surjective R2)
  have := (StrictMono.range_inj hm strictMono_id).1 (by rw [hs.range_eq, Set.range_id])
  exact congrFun this k

include h1 h2 in
/-- A smaller rank has a key at most as large. -/
theorem rank_key (i j : Fin n) (h : sortedFrom R2 i < sortedFrom R2 j) : key i ≤ key j := by
  have e := sortedFrom_noInversion R1 R1 (fun a b h => by rw [h1] at h ⊢; simp only [decide_eq_true_eq, decide_eq_false_iff_not] at *; exact h.asymm)
      (fun a b h => h) (fun a b c hab hbc => by
        rw [h1] at *; simp only [decide_eq_false_iff_not, not_lt] at *; exact hbc.trans hab) _ _ h
  rw [sort_sort R1 R2 h2, sort_sort R1 R2 h2, h1, decide_eq_false_iff_not, not_lt] at e
  exact e

/-- There are `m` entries of rank below `m`. -/
theorem rank_card (m : ℕ) (hm : m ≤ n) : (Finset.univ.filter fun i => (sortedFrom R2 i).val < m).card = m := by
  have e : (Finset.univ.filter fun i => (sortedFrom R2 i).val < m).card = (Finset.univ.filter fun i : Fin n => i.val < m).card := by
    refine Finset.card_bij (fun i _ => sortedFrom R2 i) (fun i hi => ?_) (fun i _ j _ h => sortedFrom_injective R2 h) (fun j hj => ?_)
    · simpa using hi
    · obtain ⟨i, rfl⟩ := sortedFrom_surjective R2 j
      exact ⟨i, by simpa using hj, rfl⟩
  rw [e, Fin.card_filter_val_lt, min_eq_right hm]

end Cert.Ssd

end
-- ==== Proof.RefRank.lean ====
module

public import proofs.«01_k».proof.Proof.RefClass
public import proofs.«01_k».proof.Proof.Rank

/-! # The reference's ranks and its class loss -/

@[expose] public section

set_option maxRecDepth 16384

noncomputable section

namespace Cert.ReferenceIdeal.Ssd

open Cert.ReferenceIdeal Cert.ReferenceIdeal.Gen Cert.ReferenceIdeal.Value Cert.Ssd
open Idealize.ShloMosaic
open Idealize.ShloMosaic (ix0 ix1 ix2 ix3 ix4)

/-- A sort of the rows, one row at a time. -/
theorem sort2_rows {n0 n1 : ℕ} {α β : Type} (cmp : α × β → α × β → BitVec 1) (x : (⟨2, ![n0, n1]⟩ : Shape).Idx → α)
    (y : (⟨2, ![n0, n1]⟩ : Shape).Idx → β) (b : Fin n0) (a : Fin n1) :
    (Host.sort2 ⟨2, ![n0, n1]⟩ 1 cmp x y).2 (ix2 b a)
      = y (ix2 b (sortedFrom (fun k k' => cmp (x (ix2 b k), y (ix2 b k)) (x (ix2 b k'), y (ix2 b k')) == 1#1) a)) := by
  have h1 : 1 < (⟨2, ![n0, n1]⟩ : Shape).rank := Nat.lt_succ_self 1
  have hal : ∀ k : Fin ((⟨2, ![n0, n1]⟩ : Shape).size ⟨1, h1⟩), Shape.Idx.along (ix2 b a) ⟨1, h1⟩ k = ix2 (n0 := n0) (n1 := n1) b k := fun k => by
    funext i
    match i with
    | ⟨0, _⟩ => rfl
    | ⟨1, _⟩ => rfl
  unfold Host.sort2
  rw [dif_pos h1]
  simp only [hal]
  rfl

theorem sort2_row {α β : Type} (cmp : α × β → α × β → BitVec 1) (x : S16x20000.Idx → α) (y : S16x20000.Idx → β) (b : Fin 16) (a : Fin 20000) :
    (Host.sort2 S16x20000 1 cmp x y).2 (ix2 b a)
      = y (ix2 b (sortedFrom (fun k k' => cmp (x (ix2 b k), y (ix2 b k)) (x (ix2 b k'), y (ix2 b k')) == 1#1) a)) :=
  sort2_rows cmp x y b a

/-- The float comparator compares the keys. -/
theorem cmp_float (x y : EReal) (i j : BitVec 32) :
    (comparator_f32_i32_d1 (F := Ideal) (x, i) (y, j) == 1#1) = decide (x < y) := by
  have hz : ∀ z : EReal, Scalar.select (Ideal.cmp .une z z) (Ideal.ofBits FTy.f32 0x7FC00000#32)
      (Scalar.select (Ideal.cmp .oeq z (Ideal.ofBits FTy.f32 0#32)) (Ideal.ofBits FTy.f32 0#32) z) = z := fun z => by
    have e1 : Ideal.cmp .une z z = 0#1 := by
      show BitVec.ofBool (decide (z ≠ z)) = 0#1
      simp
    rw [e1]
    show Scalar.select (BitVec.ofBool (decide (z = Ideal.ofBits FTy.f32 0#32))) (Ideal.ofBits FTy.f32 0#32) z = z
    by_cases h : z = Ideal.ofBits FTy.f32 0#32
    · rw [decide_eq_true h]; exact h.symm
    · rw [decide_eq_false h]; rfl
  show (Ideal.cmp .olt (Scalar.select (Ideal.cmp .une x x) (Ideal.ofBits FTy.f32 0x7FC00000#32)
      (Scalar.select (Ideal.cmp .oeq x (Ideal.ofBits FTy.f32 0#32)) (Ideal.ofBits FTy.f32 0#32) x))
    (Scalar.select (Ideal.cmp .une y y) (Ideal.ofBits FTy.f32 0x7FC00000#32)
      (Scalar.select (Ideal.cmp .oeq y (Ideal.ofBits FTy.f32 0#32)) (Ideal.ofBits FTy.f32 0#32) y)) == 1#1) = _
  rw [hz, hz]
  show (BitVec.ofBool (decide (x < y)) == 1#1) = _
  rw [Bool.eq_iff_iff, beq_iff_eq, ofBool_eq_one]

/-- The integer comparator compares the entries. -/
theorem cmp_word (x y i j : BitVec 32) : (comparator_i32_i32_d1 (x, i) (y, j) == 1#1) = decide (x.toInt < y.toInt) := by
  show (BitVec.ofBool (x.slt y) == 1#1) = _
  rw [Bool.eq_iff_iff, beq_iff_eq, ofBool_eq_one]
  rfl

variable (V : Valuation τ sig (Elt Ideal))

/-- The keys of a row's first sort. -/
abbrev key (b : Fin 16) (a : Fin 20000) : EReal := res_main_v104 V (ix2 b a)

/-- The order of the first sort, and of the second. -/
def before1 (b : Fin 16) (k k' : Fin 20000) : Bool := decide (key V b k < key V b k')
def before2 (b : Fin 16) (k k' : Fin 20000) : Bool := decide (sortedFrom (before1 V b) k < sortedFrom (before1 V b) k')

theorem v105_at (b : Fin 16) (a : Fin 20000) : res_main_v105 V (ix2 b a) = BitVec.ofNat 32 (sortedFrom (before1 V b) a).val := by
  unfold res_main_v105
  rw [sort2_row]
  simp only [cmp_float]
  rfl

/-- The rank of an anchor in its row. -/
theorem rank_at (b : Fin 16) (a : Fin 20000) : (Host.sort2 S16x20000 1 comparator_i32_i32_d1 (res_main_v105 V) (res_main_call7_v0 V)).2 (ix2 b a)
    = BitVec.ofNat 32 (sortedFrom (before2 V b) a).val := by
  rw [sort2_row]
  have hb : (fun k k' : Fin 20000 => comparator_i32_i32_d1 (res_main_v105 V (ix2 b k), res_main_call7_v0 V (ix2 b k))
      (res_main_v105 V (ix2 b k'), res_main_call7_v0 V (ix2 b k')) == 1#1) = before2 V b := by
    funext k k'
    have h1 := (sortedFrom (before1 V b) k).isLt
    have h2 := (sortedFrom (before1 V b) k').isLt
    rw [cmp_word, v105_at, v105_at, toInt_small _ (by omega), toInt_small _ (by omega)]
    unfold before2
    simp only [Nat.cast_lt, Fin.lt_def]
  rw [hb]
  rfl

end Cert.ReferenceIdeal.Ssd

end
-- ==== Proof.RefSel.lean ====
module

public import proofs.«01_k».proof.Proof.RefRank

/-! # The reference's second result -/

@[expose] public section

set_option maxRecDepth 16384

noncomputable section

namespace Cert.ReferenceIdeal.Ssd

open Cert.ReferenceIdeal Cert.ReferenceIdeal.Gen Cert.ReferenceIdeal.Value Cert.Ssd
open Idealize.ShloMosaic
open Idealize.ShloMosaic (ix0 ix1 ix2 ix3 ix4)

/-- The word test `rank < 3 · count`. -/
theorem slt_small (r n : ℕ) (hr : r < 20000) (hn : n ≤ 20000) :
    IntOp.cmpi .slt (BitVec.ofNat 32 r) (IntOp.muli 3#32 (BitVec.ofNat 32 n)) = BitVec.ofBool (decide (r < 3 * n)) := by
  show BitVec.ofBool ((BitVec.ofNat 32 r).slt (3#32 * BitVec.ofNat 32 n)) = _
  rw [← BitVec.ofNat_mul]
  simp only [BitVec.slt]
  rw [toInt_small r (by omega), toInt_small (3 * n) (by omega)]
  simp only [Nat.cast_lt]

theorem uitofp_bool (p : Bool) : (FloatOps.uitofp (F := Ideal) FTy.f32 (BitVec.ofBool p) : EReal) = if p = true then 1 else 0 := by
  rw [uitofp_bit]
  exact if_congr (ofBool_eq_one p) rfl rfl

theorem sgt_zero (w : BitVec 32) : IntOp.cmpi .sgt w 0#32 = BitVec.ofBool (decide (0 < w.toInt)) := by
  show BitVec.ofBool ((0#32).slt w) = _
  rfl

variable (V : Valuation τ sig (Elt Ideal)) (T : Fin 16 → Fin 20000 → Fin 81)

/-- The class loss of an anchor, and the same with the foreground masked out. -/
abbrev rCe (b : Fin 16) (a : Fin 20000) : EReal := crossEnt (rLogit V b a) (T b a)
def rNeg (b : Fin 16) (a : Fin 20000) : EReal := if 0 ≤ (rMtch V b a).toInt then ⊥ else rCe V T b a

/-- The anchors that the reference selects in an image. -/
def rSel (b : Fin 16) : Finset (Fin 20000) := Finset.univ.filter fun a => (sortedFrom (before2 V b) a).val < 3 * rFg V b

variable (h : ∀ b a, (rMtch V b a).toInt < 100) (hx : ∀ b a k, ∃ r : ℝ, rLogit V b a k = r)
  (hT : ∀ b a, rCls V b a = BitVec.ofNat 32 (T b a).val) (hp : ∀ b a, 0 < (T b a).val ↔ 0 ≤ (rMtch V b a).toInt)
  (hn : ∀ b, 4 * rFg V b ≤ 20000)

include hT in
theorem cls_toInt (b : Fin 16) (a : Fin 20000) : (rCls V b a).toInt = (T b a).val := by
  rw [hT]
  exact toInt_small _ (by have := (T b a).isLt; omega)

include h hT hp in
theorem v97_bool (b : Fin 16) (a : Fin 20000) : res_main_v97 V (ix2 b a) = BitVec.ofBool (decide (0 ≤ (rMtch V b a).toInt)) := by
  rw [v97_at V h, sgt_zero, cls_toInt V T hT]
  congr 1
  rw [Bool.eq_iff_iff, decide_eq_true_eq, decide_eq_true_eq, ← hp]
  omega

include h hx hT in
theorem v95_ce (b : Fin 16) (a : Fin 20000) : res_main_v95 V (ix2 b a) = rCe V T b a :=
  v95_at V h hx (fun b a => by rw [cls_toInt V T hT]; have := (T b a).isLt; omega) b a (T b a) (cls_toInt V T hT b a)

include h hx hT hp in
theorem v104_at (b : Fin 16) (a : Fin 20000) : key V b a = -(rNeg V T b a) := by
  unfold key res_main_v104
  pointwise
  rw [v97_bool V T h hT hp, v95_ce V T h hx hT]
  unfold rNeg
  show -(Scalar.select (BitVec.ofBool (decide (0 ≤ (rMtch V b a).toInt))) (Ideal.ofBits FTy.f32 0xFF800000#32) (rCe V T b a)) = _
  rw [ofBits_ninf]
  by_cases h0 : 0 ≤ (rMtch V b a).toInt
  · rw [if_pos h0, decide_eq_true h0]; rfl
  · rw [if_neg h0, decide_eq_false h0]; rfl

include hn in
theorem rSel_card (b : Fin 16) : (rSel V b).card = 3 * rFg V b :=
  rank_card (before2 V b) _ (by have := hn b; omega)

include h hx hT hp in
/-- The selected anchors have the greatest masked losses. -/
theorem rSel_top (b : Fin 16) (i : Fin 20000) (hi : i ∈ rSel V b) (j : Fin 20000) (hj : j ∉ rSel V b) : rNeg V T b j ≤ rNeg V T b i := by
  unfold rSel at hi hj
  rw [Finset.mem_filter] at hi hj
  have e := rank_key (key V b) (before1 V b) (before2 V b) (fun _ _ => rfl) (fun _ _ => rfl) i j (by
    rw [Fin.lt_def]
    have := hi.2
    have h2 : ¬ (sortedFrom (before2 V b) j).val < 3 * rFg V b := fun h => hj ⟨Finset.mem_univ _, h⟩
    omega)
  rw [v104_at V T h hx hT hp, v104_at V T h hx hT hp] at e
  exact EReal.neg_le_neg_iff.1 e

include h hx hT hp hn in
/-- No foreground anchor is selected: there are enough of the others. -/
theorem rSel_back (b : Fin 16) (i : Fin 20000) (hi : i ∈ rSel V b) : ¬ 0 ≤ (rMtch V b i).toInt := by
  intro h0
  have hsub : (Finset.univ.filter fun a : Fin 20000 => ¬ 0 ≤ (rMtch V b a).toInt) ⊆ (rSel V b).erase i := by
    intro j hj
    rw [Finset.mem_filter] at hj
    refine Finset.mem_erase.2 ⟨fun e => hj.2 (e ▸ h0), ?_⟩
    by_contra hjn
    have e := rSel_top V T h hx hT hp b i hi j hjn
    unfold rNeg at e
    rw [if_pos h0, if_neg hj.2] at e
    obtain ⟨r, hr⟩ := crossEnt_real (rLogit V b j) (hx b j) (T b j)
    unfold rCe at e
    rw [hr] at e
    exact absurd e (by simp)
  have c1 := Finset.card_le_card hsub
  rw [Finset.card_erase_of_mem hi, rSel_card V hn] at c1
  have c2 := Finset.card_filter_add_card_filter_not (s := (Finset.univ : Finset (Fin 20000))) fun a => 0 ≤ (rMtch V b a).toInt
  rw [Finset.card_univ, Fintype.card_fin] at c2
  have c3 : rFg V b = (Finset.univ.filter fun a : Fin 20000 => 0 ≤ (rMtch V b a).toInt).card := rfl
  have := hn b
  have c4 : 0 < 3 * rFg V b := by rw [← rSel_card V hn b]; exact Finset.card_pos.2 ⟨i, hi⟩
  omega

include h hT hp in
theorem count_at (b : Fin 16) : (Host.reduce IntOp.addi (extui 32 (res_main_v97 V) natLt_1_32) (constantI S_ 32 0#32) reducesTo_S16x20000_S16_d1 h_S_ : IVec S16 32) (ix1 b)
    = BitVec.ofNat 32 (rFg V b) := by
  rw [count_row]
  refine congrArg (BitVec.ofNat 32) (congrArg Finset.card (Finset.filter_congr fun a _ => ?_))
  rw [v97_bool V T h hT hp, ofBool_eq_one, decide_eq_true_eq]

/-- The last operations of the reference, entry by entry. -/
theorem tail_at (x : FVec Ideal S16x20000 .f32) (p : IVec S16x20000 1) (r : IVec S16x20000 32) (n : IVec S16 32) (d : FVec Ideal S_ .f32) :
    Host.divf (addf (Host.reduceAdd (mulf x (uitofp .f32 p)) (constant S_ .f32 0x00000000#32) reducesTo_S16x20000_S_d0_1 h_S_) (Host.reduceAdd (mulf x (uitofp .f32 (cmpi .slt r (broadcastInDim S16x20000 ![0, 1] bcast_S16x1_S16x20000_0_1 (muli (broadcastInDim S16x1 ![] bcast_S_S16x1 (constantI S_ 32 3#32)) (broadcastInDim S16x1 ![0] bcast_S16_S16x1_0 n)))))) (constant S_ .f32 0x00000000#32) reducesTo_S16x20000_S_d0_1 h_S_)) d ix0
      = Ideal.div ((∑ b : Fin 16, ∑ a : Fin 20000, x (ix2 b a) * FloatOps.uitofp (F := Ideal) FTy.f32 (p (ix2 b a)) : EReal)
        + ∑ b : Fin 16, ∑ a : Fin 20000, x (ix2 b a) * FloatOps.uitofp (F := Ideal) FTy.f32 (IntOp.cmpi .slt (r (ix2 b a)) (IntOp.muli 3#32 (n (ix1 b)))))
        (d ix0) := by
  pointwise

include h hx hT hp hn in
/-- The reference's second result. -/
theorem v120_at : val3 V (Proc.devRef .tc main_v120) ix0 =
    Ideal.div ((∑ b : Fin 16, ∑ a : Fin 20000, if 0 ≤ (rMtch V b a).toInt then rCe V T b a else 0)
      + ∑ b : Fin 16, ∑ a ∈ rSel V b, rNeg V T b a) (res_main_v110 V ix0) := by
  rw [val3_main_v120]
  refine (tail_at _ _ _ _ _).trans ?_
  simp only [v95_ce V T h hx hT, v97_bool V T h hT hp, rank_at, count_at V T h hT hp, slt_small _ _ (Fin.isLt _) (rFg_le V _),
    uitofp_bool, decide_eq_true_eq]
  have e1 : ∀ (b : Fin 16) (a : Fin 20000), (rCe V T b a * (if 0 ≤ (rMtch V b a).toInt then 1 else 0) : EReal)
      = if 0 ≤ (rMtch V b a).toInt then rCe V T b a else 0 := fun b a => by split_ifs <;> simp
  have e2 : ∀ b : Fin 16, (∑ a : Fin 20000, rCe V T b a * (if (sortedFrom (before2 V b) a).val < 3 * rFg V b then 1 else 0) : EReal)
      = ∑ a ∈ rSel V b, rNeg V T b a := fun b => by
    unfold rSel
    rw [Finset.sum_filter]
    refine Finset.sum_congr rfl fun a _ => ?_
    by_cases hs : (sortedFrom (before2 V b) a).val < 3 * rFg V b
    · rw [if_pos hs, if_pos hs, mul_one]
      unfold rNeg
      rw [if_neg (rSel_back V T h hx hT hp hn b a (Finset.mem_filter.2 ⟨Finset.mem_univ _, hs⟩))]
    · rw [if_neg hs, if_neg hs, mul_zero]
  simp only [e1, e2]

end Cert.ReferenceIdeal.Ssd

end
-- ==== Proof.Equation.lean ====
module

public import proofs.«01_k».proof.Proof.Glue
public import proofs.«01_k».proof.Proof.Pre
public import proofs.«01_k».proof.Proof.RefSel

/-! # Kernel and reference return the same two losses -/

@[expose] public section

set_option maxRecDepth 16384

noncomputable section

namespace Cert.Proof

open Idealize.ShloMosaic Idealize.ShloMosaic.TcCoe Cert.Ssd
open Cert.KernelIdeal.Ssd Cert.ReferenceIdeal.Ssd
open Idealize.ShloMosaic (ix0 ix1 ix2 ix3 ix4)

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V : Valuation Cert.ReferenceIdeal.τ Cert.ReferenceIdeal.sig (Elt Ideal))
  (h : ∀ b a, (mtch m c b a).toInt < 100) (hl : ∀ b g, 1 ≤ (label m c b g).toInt ∧ (label m c b g).toInt < 81)
  (hf : ∀ b a k, ∃ r : ℝ, logit m c b a k = r) (hn : ∀ b, 4 * fgNum m c b ≤ 20000)
  (e0 : ∀ b g k, rBox V b g k = box m c b g k) (e1 : ∀ b g, rLabel V b g = label m c b g)
  (e2 : ∀ b a k, rRegr V b a k = regr m c b a k) (e3 : ∀ b a k, rLogit V b a k = logit m c b a k)
  (e4 : ∀ b a k, rAnch V b a k = anch m c b a k) (e5 : ∀ b a, rMtch V b a = mtch m c b a)

include e5 in
theorem fg_eq (b : Fin 16) : rFg V b = fgNum m c b :=
  congrArg Finset.card (Finset.filter_congr fun a _ => by rw [e5])

include e5 in
theorem norm_eq : Cert.ReferenceIdeal.Value.res_main_v110 V ix0 = Cert.KernelIdeal.Ssd.norm m c := by
  rw [v110_at]
  unfold Cert.KernelIdeal.Ssd.norm
  simp only [fg_eq m c V e5]

include h hl hf e0 e2 e4 e5 in
/-- The first result. -/
theorem box_eq : Cert.ReferenceIdeal.Value.val3 V (Proc.devRef .tc Cert.ReferenceIdeal.main_v112) = Cert.KernelIdeal.Ssd.W7 m ρ c Cert.KernelIdeal.main_v17 := by
  rw [kernel_box m ρ c h hl hf]
  funext i
  rw [show i = ix0 from Subsingleton.elim (α := Cert.ReferenceIdeal.S_.Idx) _ _, v112_at, norm_eq m c V e5]
  unfold boxSum
  have f0 : ∀ b g, rBox V b g = box m c b g := fun b g => funext (e0 b g)
  have f2 : ∀ b a, rRegr V b a = regr m c b a := fun b a => funext (e2 b a)
  have f4 : ∀ b a, rAnch V b a = anch m c b a := fun b a => funext (e4 b a)
  simp only [f0, f2, f4, e5]

include h hl hf hn e1 e3 e5 in
/-- The second result. -/
theorem class_eq : Cert.ReferenceIdeal.Value.val3 V (Proc.devRef .tc Cert.ReferenceIdeal.main_v120) = Cert.KernelIdeal.Ssd.W7 m ρ c Cert.KernelIdeal.main_v21 := by
  have f3 : ∀ b a, rLogit V b a = logit m c b a := fun b a => funext (e3 b a)
  have g1 : ∀ b a, (rMtch V b a).toInt < 100 := fun b a => by rw [e5]; exact h b a
  have g2 : ∀ b a k, ∃ r : ℝ, rLogit V b a k = r := fun b a k => by rw [e3]; exact hf b a k
  have g3 : ∀ b a, rCls V b a = BitVec.ofNat 32 (clsFin m c b a).val := fun b a => by
    rw [← cls_eq m c hl]
    have f1 : rLabel V b = label m c b := funext (e1 b)
    unfold rCls cls
    rw [f1, e5]
  have g4 : ∀ b a, 0 < (clsFin m c b a).val ↔ 0 ≤ (rMtch V b a).toInt := fun b a => by rw [e5]; exact cls_pos m c hl b a
  have g5 : ∀ b, 4 * rFg V b ≤ 20000 := fun b => by rw [fg_eq m c V e5]; exact hn b
  have n1 : ∀ b a, rNeg V (clsFin m c) b a = neg m c b a := fun b a => by
    unfold rNeg neg rCe ce
    rw [f3, e5]
  have n2 : ∀ b a, rCe V (clsFin m c) b a = ce m c b a := fun b a => by
    unfold rCe ce
    rw [f3]
  rw [kernel_class m ρ c h hl hf hn (rSel V) (fun b => by rw [rSel_card V g5, fg_eq m c V e5])
    (fun b i hi j hj => by rw [← n1, ← n1]; exact rSel_top V (clsFin m c) g1 g2 g3 g4 b i hi j hj)]
  funext i
  rw [show i = ix0 from Subsingleton.elim (α := Cert.ReferenceIdeal.S_.Idx) _ _, v120_at V (clsFin m c) g1 g2 g3 g4 g5, norm_eq m c V e5]
  unfold fgSum
  simp only [n1, n2, e5]

end Cert.Proof

end
-- ==== Proof.lean ====
/- The certificate of the SSD loss kernel: its frames, and that kernel and reference compute the same two losses over the
   extended reals. The runs are in `Proof/Run.lean`, the printed program's frame in `Proof/FrameBits.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_ssd_inputs
public import proofs.«01_k».proof.Proof.Gen.ReferenceIdeal.Run
public import proofs.«01_k».proof.Proof.Run
public import proofs.«01_k».proof.Proof.FrameBits
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The printed kernel's frame. -/
theorem frame_p : @Cert.quiescent_Kernel Cert.Kernel.Gen.facts := fun m g _ =>
  Cert.Kernel.Ssd.frame_args (h1 := Cert.Kernel.Gen.facts) (h2 := Cert.KernelIdeal.Gen.facts) m g

/-- The idealized kernel's frame. -/
theorem frame_pi : @Cert.quiescent_KernelIdeal Cert.KernelIdeal.Gen.facts := fun m g _ => Cert.KernelIdeal.Ssd.frame_args m g

/-- The reference's frame: it has no semaphore at all. -/
theorem frame_ri : @Cert.quiescent_ReferenceIdeal Cert.ReferenceIdeal.Gen.facts := fun m g _ =>
  (θ_run Cert.ReferenceIdeal.defs _ _).mono (fun r h =>
    ⟨fun c => (h c).2.2, Idealize.ShloMosaic.sem_eq_zero_of_no_sems (by decide) r.2⟩) (Cert.ReferenceIdeal.Value.run m g)

/-- Kernel and reference return the same two losses, under the precondition. -/
theorem algebraic : @Cert.algebraic_KernelIdeal_ReferenceIdeal_pre_ssd_inputs Cert.KernelIdeal.Gen.facts Cert.ReferenceIdeal.Gen.facts Cert.Pre_ssd_inputs.Gen.facts := by
  intro m g m' g' hpre hargs
  refine ⟨fun c => Cert.KernelIdeal.Ssd.W7 m g c (Proc.devRef .tc Cert.KernelIdeal.main_v17), fun c => Cert.KernelIdeal.Ssd.W7 m g c (Proc.devRef .tc Cert.KernelIdeal.main_v21),
    (θ_run Cert.KernelIdeal.defs _ _).mono (fun r h c => ?_) (Cert.KernelIdeal.Ssd.run_values m g),
    (θ_run Cert.ReferenceIdeal.defs _ _).mono (fun r h c => ?_) (Cert.ReferenceIdeal.Value.run m' g')⟩
  · obtain ⟨h0, h1, ha⟩ := h.1 c
    exact ⟨h0, h1, ha _ (by decide), ha _ (by decide), ha _ (by decide), ha _ (by decide), ha _ (by decide), ha _ (by decide)⟩
  · obtain ⟨hM, hL, hF, hN⟩ := Cert.Pre_ssd_inputs.Ssd.unpack _ _ _ _ _ _ (hpre c)
    obtain ⟨a0, a1, a2, a3, a4, a5⟩ := hargs c
    obtain ⟨h0, h1, ha⟩ := h c
    refine ⟨h0.trans ((Cert.ReferenceIdeal.Value.val3_main_v112 _).symm.trans ?_),
      h1.trans ((Cert.ReferenceIdeal.Value.val3_main_v120 _).symm.trans ?_), ha⟩
    · exact box_eq m g c (fun b => m' (c, b)) hM hL hF (fun b g k => congrFun a0 (ix3 b g k)) (fun b a k => congrFun a2 (ix3 b a k)) (fun b a k => congrFun a4 (ix3 b a k)) (fun b a => congrFun a5 (ix2 b a))
    · exact class_eq m g c (fun b => m' (c, b)) hM hL hF hN (fun b g => congrFun a1 (ix2 b g)) (fun b a k => congrFun a3 (ix3 b a k)) (fun b a => congrFun a5 (ix2 b a))

theorem claim : Cert.Claim :=
  ⟨Cert.Kernel.Gen.facts, Cert.KernelIdeal.Gen.facts, Cert.ReferenceIdeal.Gen.facts, Cert.Pre_ssd_inputs.Gen.facts, frame_p, frame_pi,
    fun m g _ => frame_pi m g trivial, frame_ri, fun m g _ => frame_ri m g trivial, trivial, algebraic⟩

end Cert.Proof

end
